-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "ln_2" .f32 0x3F317218#32 ((Real.log 2 : ℝ) : EReal)
  ∧ IdealRules.named_const.Statement Cert.KernelIdeal.κ "log2_two_n" .f32 0x413E82A0#32 (((Real.log 3840) * (Real.log 2)⁻¹ : ℝ) : EReal)
  ∧ IdealRules.named_const.Statement Cert.KernelIdeal.κ "inv_n" .f32 0x3A088889#32 ((1 / 1920 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1920x1024 : Shape := ⟨3, ![2, 1920, 1024]⟩
abbrev S2x1920 : Shape := ⟨2, ![2, 1920]⟩
abbrev S_ : Shape := ⟨0, ![]⟩
abbrev S1x1 : Shape := ⟨2, ![1, 1]⟩
abbrev S1x1920x1024 : Shape := ⟨3, ![1, 1920, 1024]⟩
abbrev S1920x1920 : Shape := ⟨2, ![1920, 1920]⟩
abbrev S1920x1024 : Shape := ⟨2, ![1920, 1024]⟩
abbrev S1920x128 : Shape := ⟨2, ![1920, 128]⟩
abbrev S1x128 : Shape := ⟨2, ![1, 128]⟩
abbrev S1x1920 : Shape := ⟨2, ![1, 1920]⟩
abbrev S128x128 : Shape := ⟨2, ![128, 128]⟩
abbrev S1920x1 : Shape := ⟨2, ![1920, 1]⟩
abbrev S1x384x1024 : Shape := ⟨3, ![1, 384, 1024]⟩
abbrev S384x1024 : Shape := ⟨2, ![384, 1024]⟩
abbrev S384x1920 : Shape := ⟨2, ![384, 1920]⟩
abbrev S384x1 : Shape := ⟨2, ![384, 1]⟩
abbrev S384 : Shape := ⟨1, ![384]⟩
abbrev S384x128 : Shape := ⟨2, ![384, 128]⟩
abbrev S1920 : Shape := ⟨1, ![1920]⟩
abbrev S1 : Shape := ⟨1, ![1]⟩
abbrev S1920x384 : Shape := ⟨2, ![1920, 384]⟩

abbrev nBuf : Space → Nat
  | .hbm => 12
  | .vmem => 21
  | .smem => 1
  | _ => 0

abbrev bufTy : (tb : Table) → Fin (tcTables nBuf tb) → BufTy
  | .hbm, ⟨0, _⟩ => ⟨S2x1920x1024, .fp8e4m3⟩
  | .hbm, ⟨1, _⟩ => ⟨S2x1920, .f32⟩
  | .hbm, ⟨2, _⟩ => ⟨S2x1920x1024, .fp8e4m3⟩
  | .hbm, ⟨3, _⟩ => ⟨S2x1920, .f32⟩
  | .hbm, ⟨4, _⟩ => ⟨S_, .f32⟩
  | .hbm, ⟨5, _⟩ => ⟨S1x1, .f32⟩
  | .hbm, ⟨6, _⟩ => ⟨S2x1920x1024, .bf16⟩
  | .hbm, ⟨7, _⟩ => ⟨S2x1920x1024, .bf16⟩
  | .hbm, ⟨8, _⟩ => ⟨S1x1, .f32⟩
  | .hbm, ⟨9, _⟩ => ⟨S2x1920, .f32⟩
  | .hbm, ⟨10, _⟩ => ⟨S2x1920, .f32⟩
  | .hbm, ⟨11, _⟩ => ⟨S2x1920, .f32⟩
  | .local _ .vmem, ⟨0, _⟩ => ⟨S1x1920x1024, .fp8e4m3⟩
  | .local _ .vmem, ⟨1, _⟩ => ⟨S1x1920x1024, .fp8e4m3⟩
  | .local _ .vmem, ⟨2, _⟩ => ⟨S1x1920x1024, .fp8e4m3⟩
  | .local _ .vmem, ⟨3, _⟩ => ⟨S1x1920x1024, .fp8e4m3⟩
  | .local _ .vmem, ⟨4, _⟩ => ⟨S2x1920, .f32⟩
  | .local _ .vmem, ⟨5, _⟩ => ⟨S2x1920, .f32⟩
  | .local _ .vmem, ⟨6, _⟩ => ⟨S1x1920x1024, .bf16⟩
  | .local _ .vmem, ⟨7, _⟩ => ⟨S1x1920x1024, .bf16⟩
  | .local _ .vmem, ⟨8, _⟩ => ⟨S1x1920x1024, .bf16⟩
  | .local _ .vmem, ⟨9, _⟩ => ⟨S1x1920x1024, .bf16⟩
  | .local _ .vmem, ⟨10, _⟩ => ⟨S1x1, .f32⟩
  | .local _ .vmem, ⟨11, _⟩ => ⟨S2x1920, .f32⟩
  | .local _ .vmem, ⟨12, _⟩ => ⟨S2x1920, .f32⟩
  | .local _ .vmem, ⟨13, _⟩ => ⟨S2x1920, .f32⟩
  | .local _ .vmem, ⟨14, _⟩ => ⟨S1920x1920, .f32⟩
  | .local _ .vmem, ⟨15, _⟩ => ⟨S1920x1920, .bf16⟩
  | .local _ .vmem, ⟨16, _⟩ => ⟨S1920x1024, .bf16⟩
  | .local _ .vmem, ⟨17, _⟩ => ⟨S1920x1024, .bf16⟩
  | .local _ .vmem, ⟨18, _⟩ => ⟨S1920x128, .f32⟩
  | .local _ .vmem, ⟨19, _⟩ => ⟨S1920x128, .f32⟩
  | .local _ .vmem, ⟨20, _⟩ => ⟨S1920x128, .f32⟩
  | .local _ .smem, ⟨0, _⟩ => ⟨S1x1, .f32⟩
  | _, _ => ⟨S2x1920x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let v3 : Index := Scalar.indexCast arg0
  let c0_1 : Index := 0#32
  ![v3.toNat, 0]
@[reducible] def k0_t1_loop : Scf.Loop 32 :=
  let c0_i32 : BitVec 32 := 0#32
  let c5_i32 : BitVec 32 := 5#32
  let v158 : BitVec 32 := Scalar.addi c0_i32 c5_i32
  let c1_i32 : BitVec 32 := 1#32
  ⟨c0_i32, v158, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c384_i32 : BitVec 32 := 384#32
  let v328 : BitVec 32 := Scalar.muli arg19 c384_i32
  v328
def k0_off2 (k0_t1 : Fin k0_t1_loop.trips) : Fin 3 → Nat :=
  let c0_75 : Index := 0#32
  let c0_i32 : BitVec 32 := 0#32
  let c1_i32 : BitVec 32 := 1#32
  let arg19 : BitVec 32 := Scf.iv c0_i32 c1_i32 k0_t1
  let c384_i32 : BitVec 32 := 384#32
  let v328 : BitVec 32 := Scalar.muli arg19 c384_i32
  let v329 : BitVec 32 := v328
  let v330 : Index := Scalar.indexCast v329
  let c0_76 : Index := 0#32
  ![0, v330.toNat, 0]
def k0_off3 (k0_t1 : Fin k0_t1_loop.trips) : Fin 2 → Nat :=
  let c0_i32 : BitVec 32 := 0#32
  let c1_i32 : BitVec 32 := 1#32
  let arg19 : BitVec 32 := Scf.iv c0_i32 c1_i32 k0_t1
  let c384_i32 : BitVec 32 := 384#32
  let v328 : BitVec 32 := Scalar.muli arg19 c384_i32
  let v329 : BitVec 32 := v328
  let v336 : Index := Scalar.indexCast v329
  let c0_81 : Index := 0#32
  ![v336.toNat, 0]
def k0_off4 (k0_t1 : Fin k0_t1_loop.trips) : Fin 2 → Nat :=
  let c0_i32 : BitVec 32 := 0#32
  let c1_i32 : BitVec 32 := 1#32
  let arg19 : BitVec 32 := Scf.iv c0_i32 c1_i32 k0_t1
  let c384_i32 : BitVec 32 := 384#32
  let v328 : BitVec 32 := Scalar.muli arg19 c384_i32
  let v329 : BitVec 32 := v328
  let v342 : Index := Scalar.indexCast v329
  let c0_82 : Index := 0#32
  ![v342.toNat, 0]
def k0_off5 (k0_t1 : Fin k0_t1_loop.trips) : Fin 2 → Nat :=
  let c0_i32 : BitVec 32 := 0#32
  let c1_i32 : BitVec 32 := 1#32
  let arg19 : BitVec 32 := Scf.iv c0_i32 c1_i32 k0_t1
  let c384_i32 : BitVec 32 := 384#32
  let v328 : BitVec 32 := Scalar.muli arg19 c384_i32
  let v329 : BitVec 32 := v328
  let v359 : Index := Scalar.indexCast v329
  let c0_86 : Index := 0#32
  ![v359.toNat, 0]
@[reducible] def k0_t2_loop : Scf.Loop 32 :=
  let c0_i32_26 : BitVec 32 := 0#32
  let c5_i32_27 : BitVec 32 := 5#32
  let v220 : BitVec 32 := Scalar.addi c0_i32_26 c5_i32_27
  let c1_i32_28 : BitVec 32 := 1#32
  ⟨c0_i32_26, v220, c1_i32_28⟩
def k0_mult2 (k0_t2 : Fin k0_t2_loop.trips) : BitVec 32 :=
  let c0_i32_26 : BitVec 32 := 0#32
  let c1_i32_28 : BitVec 32 := 1#32
  let arg19 : BitVec 32 := Scf.iv c0_i32_26 c1_i32_28 k0_t2
  let c384_i32 : BitVec 32 := 384#32
  let v328 : BitVec 32 := Scalar.muli arg19 c384_i32
  v328
def k0_off6 (k0_t2 : Fin k0_t2_loop.trips) : Fin 2 → Nat :=
  let c0_i32_26 : BitVec 32 := 0#32
  let c1_i32_28 : BitVec 32 := 1#32
  let arg19 : BitVec 32 := Scf.iv c0_i32_26 c1_i32_28 k0_t2
  let c384_i32 : BitVec 32 := 384#32
  let v328 : BitVec 32 := Scalar.muli arg19 c384_i32
  let v329 : BitVec 32 := v328
  let v330 : Index := Scalar.indexCast v329
  let c0_75 : Index := 0#32
  ![v330.toNat, 0]
def k0_off7 (k0_t2 : Fin k0_t2_loop.trips) : Fin 2 → Nat :=
  let c0_i32_26 : BitVec 32 := 0#32
  let c1_i32_28 : BitVec 32 := 1#32
  let arg19 : BitVec 32 := Scf.iv c0_i32_26 c1_i32_28 k0_t2
  let c384_i32 : BitVec 32 := 384#32
  let v328 : BitVec 32 := Scalar.muli arg19 c384_i32
  let v329 : BitVec 32 := v328
  let v332 : Index := Scalar.indexCast v329
  let c0_76 : Index := 0#32
  ![v332.toNat, 0]
def k0_off8 (k0_t2 : Fin k0_t2_loop.trips) : Fin 2 → Nat :=
  let c0_i32_26 : BitVec 32 := 0#32
  let c1_i32_28 : BitVec 32 := 1#32
  let arg19 : BitVec 32 := Scf.iv c0_i32_26 c1_i32_28 k0_t2
  let c384_i32 : BitVec 32 := 384#32
  let v328 : BitVec 32 := Scalar.muli arg19 c384_i32
  let v329 : BitVec 32 := v328
  let v361 : Index := Scalar.indexCast v329
  let c0_83 : Index := 0#32
  ![v361.toNat, 0]
def k0_off9 (k0_t2 : Fin k0_t2_loop.trips) : Fin 3 → Nat :=
  let c0_88 : Index := 0#32
  let c0_i32_26 : BitVec 32 := 0#32
  let c1_i32_28 : BitVec 32 := 1#32
  let arg19 : BitVec 32 := Scf.iv c0_i32_26 c1_i32_28 k0_t2
  let c384_i32 : BitVec 32 := 384#32
  let v328 : BitVec 32 := Scalar.muli arg19 c384_i32
  let v329 : BitVec 32 := v328
  let v376 : Index := Scalar.indexCast v329
  let c0_89 : Index := 0#32
  ![0, v376.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1920x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1920x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1920x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1920x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1920 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1920 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1920 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_n" => some ((1 / 1920 : ℝ) : EReal)
  | "ln_2" => some ((Real.log 2 : ℝ) : EReal)
  | "log2_e" => some (((Real.log 2)⁻¹ : ℝ) : EReal)
  | "log2_two_n" => some (((Real.log 3840) * (Real.log 2)⁻¹ : ℝ) : EReal)
  | _ => none
-- ==== ReferenceIdeal.lean ====
abbrev S2x1920x1024 : Shape := ⟨3, ![2, 1920, 1024]⟩
abbrev S2x1920 : Shape := ⟨2, ![2, 1920]⟩
abbrev S_ : Shape := ⟨0, ![]⟩
abbrev S1x1 : Shape := ⟨2, ![1, 1]⟩
abbrev S2x1920x1920 : Shape := ⟨3, ![2, 1920, 1920]⟩
abbrev S2x1920x1 : Shape := ⟨3, ![2, 1920, 1]⟩
abbrev S1x1x1 : Shape := ⟨3, ![1, 1, 1]⟩
abbrev S2x1x1920 : Shape := ⟨3, ![2, 1, 1920]⟩
abbrev S1920x1920 : Shape := ⟨2, ![1920, 1920]⟩
abbrev S1x1920x1920 : Shape := ⟨3, ![1, 1920, 1920]⟩
abbrev S1x2x1920 : Shape := ⟨3, ![1, 2, 1920]⟩
abbrev S1 : Shape := ⟨1, ![1]⟩

abbrev nBuf : Space → Nat
  | .hbm => 12
  | .vmem => 11
  | .smem => 0
  | _ => 0

abbrev bufTy : (tb : Table) → Fin (tcTables nBuf tb) → BufTy
  | .hbm, ⟨0, _⟩ => ⟨S2x1920x1024, .fp8e4m3⟩
  | .hbm, ⟨1, _⟩ => ⟨S2x1920, .f32⟩
  | .hbm, ⟨2, _⟩ => ⟨S2x1920x1024, .fp8e4m3⟩
  | .hbm, ⟨3, _⟩ => ⟨S2x1920, .f32⟩
  | .hbm, ⟨4, _⟩ => ⟨S_, .f32⟩
  | .hbm, ⟨5, _⟩ => ⟨S1x1, .f32⟩
  | .hbm, ⟨6, _⟩ => ⟨S2x1920x1024, .bf16⟩
  | .hbm, ⟨7, _⟩ => ⟨S2x1920x1024, .bf16⟩
  | .hbm, ⟨8, _⟩ => ⟨S1x1, .f32⟩
  | .hbm, ⟨9, _⟩ => ⟨S2x1920, .f32⟩
  | .hbm, ⟨10, _⟩ => ⟨S2x1920, .f32⟩
  | .hbm, ⟨11, _⟩ => ⟨S2x1920, .f32⟩
  | .local _ .vmem, ⟨0, _⟩ => ⟨S1x1, .f32⟩
  | .local _ .vmem, ⟨1, _⟩ => ⟨S2x1920x1024, .fp8e4m3⟩
  | .local _ .vmem, ⟨2, _⟩ => ⟨S2x1920, .f32⟩
  | .local _ .vmem, ⟨3, _⟩ => ⟨S2x1920x1024, .fp8e4m3⟩
  | .local _ .vmem, ⟨4, _⟩ => ⟨S2x1920, .f32⟩
  | .local _ .vmem, ⟨5, _⟩ => ⟨S2x1920x1024, .bf16⟩
  | .local _ .vmem, ⟨6, _⟩ => ⟨S2x1920x1024, .bf16⟩
  | .local _ .vmem, ⟨7, _⟩ => ⟨S1x1, .f32⟩
  | .local _ .vmem, ⟨8, _⟩ => ⟨S2x1920, .f32⟩
  | .local _ .vmem, ⟨9, _⟩ => ⟨S2x1920, .f32⟩
  | .local _ .vmem, ⟨10, _⟩ => ⟨S2x1920, .f32⟩
  | _, _ => ⟨S2x1920x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1920x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1920x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1920x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1920x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1920 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1920 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1920 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Consts.lean ====
/- The float constants the two programs spell, as the extended reals they denote over the extended reals. -/
module

public import proofs.«01_k».proof.Defs
public import Idealize.ShloMosaic.PureOps.Ideal
public import Idealize.ShloMosaic.PureOps.IdealRules

@[expose] public section

noncomputable section

namespace Cert.Consts

open Idealize.ShloMosaic

/-- The pattern of minus infinity denotes `⊥`. -/
theorem ofBits_neg_inf : Ideal.ofBits .f32 0xFF800000#32 = (⊥ : EReal) := by
  simp [Ideal.ofBits, Ideal.ieee]

/-- The pattern of `3840` denotes the real `3840`. -/
theorem ofBits_3840 : Ideal.ofBits .f32 0x45700000#32 = ((3840 : ℝ) : EReal) := by
  simp [Ideal.ofBits, Ideal.ieee, -EReal.coe_mul]; norm_num

/-- The pattern of `1920` denotes the real `1920`. -/
theorem ofBits_1920 : Ideal.ofBits .f32 0x44F00000#32 = ((1920 : ℝ) : EReal) := by
  simp [Ideal.ofBits, Ideal.ieee, -EReal.coe_mul]; norm_num

/-- The kernel's `log2_e` denotes `(log 2)⁻¹`. -/
theorem log2_e : Named.named (F := Ideal) Cert.KernelIdeal.κ "log2_e" (φ := .f32) 0x3FB8AA3B#32 = (((Real.log 2)⁻¹ : ℝ) : EReal) :=
  IdealRules.named_const.ideal_named_scalar _ _ _ _ rfl

/-- The kernel's `ln_2` denotes `log 2`. -/
theorem ln_2 : Named.named (F := Ideal) Cert.KernelIdeal.κ "ln_2" (φ := .f32) 0x3F317218#32 = ((Real.log 2 : ℝ) : EReal) :=
  IdealRules.named_const.ideal_named_scalar _ _ _ _ rfl

/-- The kernel's `log2_two_n` denotes `log 3840 / log 2`. -/
theorem log2_two_n : Named.named (F := Ideal) Cert.KernelIdeal.κ "log2_two_n" (φ := .f32) 0x413E82A0#32
    = ((Real.log 3840 * (Real.log 2)⁻¹ : ℝ) : EReal) :=
  IdealRules.named_const.ideal_named_scalar _ _ _ _ rfl

/-- The kernel's `inv_n` denotes `1 / 1920`. -/
theorem inv_n : Named.named (F := Ideal) Cert.KernelIdeal.κ "inv_n" (φ := .f32) 0x3A088889#32 = ((1 / 1920 : ℝ) : EReal) :=
  IdealRules.named_const.ideal_named_scalar _ _ _ _ rfl

/-- The power of two over the extended reals. -/
theorem exp2_def {φ : FTy} (x : Ideal φ) : FloatOps.exp2 x = Ideal.exp2 x := rfl

end Cert.Consts

end
-- ==== Proof.Spec.lean ====
/- What one batch of the kernel computes, written over the extended reals for any square table of base-two logits. -/
module

public import Idealize.ShloMosaic.PureOps.Ideal

@[expose] public section

noncomputable section

namespace Cert.Spec

open Idealize.ShloMosaic

/-- `1 / log 2`. -/
abbrev ke : EReal := (((Real.log 2)⁻¹ : ℝ) : EReal)
/-- `log 2`. -/
abbrev l2 : EReal := ((Real.log 2 : ℝ) : EReal)
/-- The base-two logarithm of `3840`. -/
abbrev sh : EReal := ((Real.log 3840 * (Real.log 2)⁻¹ : ℝ) : EReal)
/-- `1 / 1920`. -/
abbrev inv : EReal := ((1 / 1920 : ℝ) : EReal)

/-- The largest value of a family. -/
def top {n : ℕ} (f : Fin n → EReal) : EReal := Finset.univ.fold max ⊥ f

/-- The base-two log-sum-exp of a family, its largest value taken out. -/
def lse2 {n : ℕ} (f : Fin n → EReal) : EReal := top f + Ideal.log (∑ j, Ideal.exp2 (f j - top f)) * ke

/-- A table of base-two logits. -/
abbrev Mat := Fin 1920 → Fin 1920 → EReal

/-- The gradient of the loss at a logit. -/
def grad (L : Mat) (i j : Fin 1920) : EReal :=
  Ideal.exp2 (L i j - (lse2 (L i) + sh)) + Ideal.exp2 (L i j - (lse2 (fun a => L a j) + sh)) - (if i = j then inv else 0)

/-- The sum along a row of the gradient times the natural logit. -/
def rowSum (L : Mat) (i : Fin 1920) : EReal := (∑ j, grad L i j * L i j) * l2

/-- The base-two logits of a batch: codes `u v`, their scales `us vs`, the temperature `t`. -/
def logit (t : EReal) (u v : Fin 1920 → Fin 1024 → EReal) (us vs : Fin 1920 → EReal) : Mat := fun i j =>
  (∑ d, u i d * v j d) * ((us i * (t * ke)) * vs j)

end Cert.Spec

end
-- ==== Proof.PayRows.lean ====
/- Moving a row to a column and back, block by block of 128, and the values the kernel computes that way. -/
module

public import proofs.«01_k».proof.Proof.Gen.KernelIdeal.Skeleton
public import proofs.«01_k».proof.Proof.Consts
public import proofs.«01_k».proof.Proof.Spec
public import Idealize.ShloMosaic.Lib.Pointwise

@[expose] public section

set_option maxRecDepth 16384

noncomputable section

namespace Cert.KernelIdeal.Val

open Idealize.ShloMosaic Cert.KernelIdeal Cert.KernelIdeal.Gen

/-- Each of the fifteen blocks of 128 lanes is a slice of the row, -/
theorem lane_slices (n : Fin 15) : S1x1920.Slices ![0, 128 * n.val] S1x128 := by revert n; decide
/-- and each of the fifteen blocks of 128 rows is a slice of the column. -/
theorem row_slices (n : Fin 15) : S1920x128.Slices ![128 * n.val, 0] S128x128 := by revert n; decide

/-- Entries `128 n` to `128 n + 127` of a row, each one filling a row of a block. -/
def lane {α : Type} (x : S1x1920.Idx → α) (n : Fin 15) : S128x128.Idx → α :=
  transpose S128x128 [1, 0] (broadcastTo S128x128 (shapeCast S1x128 (extractStridedSlice S1x128 ![0, 128 * n.val] x (lane_slices n))
    shapeCasts_S1x128_S1x128) broadcasts_S1x128_S128x128) transposes_S128x128_p1_0_S128x128

/-- Row `q` of block `n` holds entry `128 n + q` of the row, in every lane. -/
theorem lane_apply {α : Type} (x : S1x1920.Idx → α) (n : Fin 15) (q l : Fin 128) (hk : 128 * n.val + q.val < 1920) :
    lane x n (ix2 q l) = x (ix2 0 ⟨128 * n.val + q.val, hk⟩) := by
  pointwise [lane]

/-- Entries `128 n` to `128 n + 127` of the first column, as a row. -/
def row {α : Type} (x : S1920x128.Idx → α) (n : Fin 15) : S1x128.Idx → α :=
  extractStridedSlice S1x128 ![0, 0] (transpose S128x128 [1, 0] (extractStridedSlice S128x128 ![128 * n.val, 0] x (row_slices n))
     transposes_S128x128_p1_0_S128x128) slices_S128x128_o0_0_S1x128

/-- Lane `q` of block `n` holds entry `128 n + q` of the first column. -/
theorem row_apply {α : Type} (x : S1920x128.Idx → α) (n : Fin 15) (q : Fin 128) (hk : 128 * n.val + q.val < 1920) :
    row x n (ix2 0 q) = x (ix2 ⟨128 * n.val + q.val, hk⟩ 0) := by
  pointwise [row]

/-- Fifteen blocks one under the other, read at an index. -/
theorem concat_rows {α : Type} (v : Fin 15 → S128x128.Idx → α) (h) (r : Fin 1920) (l : Fin 128) :
    concatenate S1920x128 0 [⟨S128x128, v 0⟩, ⟨S128x128, v 1⟩, ⟨S128x128, v 2⟩, ⟨S128x128, v 3⟩, ⟨S128x128, v 4⟩, ⟨S128x128, v 5⟩, ⟨S128x128, v 6⟩, ⟨S128x128, v 7⟩, ⟨S128x128, v 8⟩, ⟨S128x128, v 9⟩, ⟨S128x128, v 10⟩, ⟨S128x128, v 11⟩, ⟨S128x128, v 12⟩, ⟨S128x128, v 13⟩, ⟨S128x128, v 14⟩] h (ix2 r l)
      = v ⟨r.val / 128, by omega⟩ (ix2 ⟨r.val % 128, by omega⟩ l) :=
  concatenate_ofFn_apply (0 : Fin S1920x128.rank) v h rfl 128 rfl (ix2 r l) ⟨r.val / 128, by omega⟩ rfl (ix2 ⟨r.val % 128, by omega⟩ l) rfl
    (Fin.forall_fin_two.mpr ⟨fun h => absurd rfl h, fun _ => rfl⟩)

/-- Fifteen rows one after the other, read at an index. -/
theorem concat_lanes {α : Type} (v : Fin 15 → S1x128.Idx → α) (h) (r : Fin 1920) :
    concatenate S1x1920 1 [⟨S1x128, v 0⟩, ⟨S1x128, v 1⟩, ⟨S1x128, v 2⟩, ⟨S1x128, v 3⟩, ⟨S1x128, v 4⟩, ⟨S1x128, v 5⟩, ⟨S1x128, v 6⟩, ⟨S1x128, v 7⟩, ⟨S1x128, v 8⟩, ⟨S1x128, v 9⟩, ⟨S1x128, v 10⟩, ⟨S1x128, v 11⟩, ⟨S1x128, v 12⟩, ⟨S1x128, v 13⟩, ⟨S1x128, v 14⟩] h (ix2 0 r)
      = v ⟨r.val / 128, by omega⟩ (ix2 0 ⟨r.val % 128, by omega⟩) :=
  concatenate_ofFn_apply (1 : Fin S1x1920.rank) v h rfl 128 rfl (ix2 0 r) ⟨r.val / 128, by omega⟩ rfl (ix2 0 ⟨r.val % 128, by omega⟩) rfl
    (Fin.forall_fin_two.mpr ⟨fun _ => rfl, fun h => absurd rfl h⟩)

/-- A row is its block of 128 and its place there. -/
theorem div_mod_fin (r : Fin 1920) (h : 128 * (r.val / 128) + r.val % 128 < 1920) :
    (⟨128 * (r.val / 128) + r.val % 128, h⟩ : Fin 1920) = r := Fin.ext (Nat.div_add_mod _ _)

/-- A row spread to a column. -/
def spread {α : Type} (x : S1x1920.Idx → α) : S1920x128.Idx → α :=
  concatenate S1920x128 0 [⟨S128x128, lane x 0⟩, ⟨S128x128, lane x 1⟩, ⟨S128x128, lane x 2⟩, ⟨S128x128, lane x 3⟩, ⟨S128x128, lane x 4⟩, ⟨S128x128, lane x 5⟩, ⟨S128x128, lane x 6⟩, ⟨S128x128, lane x 7⟩, ⟨S128x128, lane x 8⟩, ⟨S128x128, lane x 9⟩, ⟨S128x128, lane x 10⟩, ⟨S128x128, lane x 11⟩, ⟨S128x128, lane x 12⟩, ⟨S128x128, lane x 13⟩, ⟨S128x128, lane x 14⟩] concatenates_S128x128_S128x128_S128x128_S128x128_S128x128_S128x128_S128x128_S128x128_S128x128_S128x128_S128x128_S128x128_S128x128_S128x128_S128x128_S1920x128_d0

/-- Row `r` of the spread is entry `r`. -/
theorem spread_apply {α : Type} (x : S1x1920.Idx → α) (r : Fin 1920) (l : Fin 128) : spread x (ix2 r l) = x (ix2 0 r) := by
  have hr : 128 * (r.val / 128) + r.val % 128 < 1920 := by omega
  unfold spread
  rw [concat_rows (lane x) _ r l, lane_apply x _ _ _ hr, div_mod_fin]

/-- The first column gathered to a row. -/
def gather {α : Type} (x : S1920x128.Idx → α) : S1x1920.Idx → α :=
  concatenate S1x1920 1 [⟨S1x128, row x 0⟩, ⟨S1x128, row x 1⟩, ⟨S1x128, row x 2⟩, ⟨S1x128, row x 3⟩, ⟨S1x128, row x 4⟩, ⟨S1x128, row x 5⟩, ⟨S1x128, row x 6⟩, ⟨S1x128, row x 7⟩, ⟨S1x128, row x 8⟩, ⟨S1x128, row x 9⟩, ⟨S1x128, row x 10⟩, ⟨S1x128, row x 11⟩, ⟨S1x128, row x 12⟩, ⟨S1x128, row x 13⟩, ⟨S1x128, row x 14⟩] concatenates_S1x128_S1x128_S1x128_S1x128_S1x128_S1x128_S1x128_S1x128_S1x128_S1x128_S1x128_S1x128_S1x128_S1x128_S1x128_S1x1920_d1

/-- Entry `r` of the gathered row is row `r`. -/
theorem gather_apply {α : Type} (x : S1920x128.Idx → α) (r : Fin 1920) : gather x (ix2 0 r) = x (ix2 r 0) := by
  have hr : 128 * (r.val / 128) + r.val % 128 < 1920 := by omega
  unfold gather
  rw [concat_lanes (row x) _ r, row_apply x _ _ hr, div_mod_fin]

/-- Codes times the first column of a table. -/
def scaled (c : FVec Ideal S1920x1024 .bf16) (s : FVec Ideal S1920x128 .f32) : FVec Ideal S1920x1024 .bf16 :=
  shapeCast S1920x1024 (mulf c (broadcastTo S1920x1024 (truncf .bf16 (extractStridedSlice S1920x1 ![0, 0] s slices_S1920x128_o0_0_S1920x1) bitsLt_bf16_f32)
    broadcasts_S1920x1_S1920x1024)) shapeCasts_S1920x1024_S1920x1024

/-- Rows scaled each by its factor. -/
theorem scaled_apply (c : FVec Ideal S1920x1024 .bf16) (s : FVec Ideal S1920x128 .f32) (r : Fin 1920) (d : Fin 1024) :
    scaled c s (ix2 r d) = (c (ix2 r d) * s (ix2 r 0) : EReal) := by
  pointwise [scaled]

/-- The text codes, their leading axis dropped. -/
theorem pay29_apply (v : FVec Ideal S1x1920x1024 .fp8e4m3) (r : Fin 1920) (d : Fin 1024) :
    k0_pay29 (F := Ideal) v (ix2 r d) = (v (ix3 0 r d) : EReal) := by
  pointwise [k0_pay29]

/-- The image scales as a column. -/
theorem pay26_apply (x : FVec Ideal S1x1920 .f32) (r : Fin 1920) (l : Fin 128) :
    k0_pay26 (F := Ideal) x (k0_pay14 x) (k0_pay15 x) (k0_pay16 x) (k0_pay17 x) (k0_pay18 x) (k0_pay19 x) (k0_pay20 x) (k0_pay21 x)
     (k0_pay22 x) (k0_pay23 x) (k0_pay24 x) (k0_pay25 x) (ix2 r l) = x (ix2 0 r) :=
  spread_apply x r l

/-- The row factors: the image scale times the temperature in units of log 2. -/
theorem pay27_apply (t : FVec Ideal S1x128 .f32) (x : FVec Ideal S1x1920 .f32) (r : Fin 1920) (l : Fin 128) :
    k0_pay27 (F := Ideal) t x (k0_pay14 x) (k0_pay15 x) (k0_pay16 x) (k0_pay17 x) (k0_pay18 x) (k0_pay19 x) (k0_pay20 x) (k0_pay21 x)
     (k0_pay22 x) (k0_pay23 x) (k0_pay24 x) (k0_pay25 x) (ix2 r l) = (x (ix2 0 r) * (t (ix2 0 l) * Spec.ke) : EReal) := by
  rw [← pay26_apply x r l]
  pointwise [k0_pay27, Consts.log2_e]

/-- The image codes times their scales. -/
theorem pay28_apply (x : FVec Ideal S1x1920 .f32) (u : FVec Ideal S1x1920x1024 .fp8e4m3) (r : Fin 1920) (d : Fin 1024) :
    k0_pay28 (F := Ideal) x (k0_pay14 x) (k0_pay15 x) (k0_pay16 x) (k0_pay17 x) (k0_pay18 x) (k0_pay19 x) (k0_pay20 x) (k0_pay21 x)
     (k0_pay22 x) (k0_pay23 x) (k0_pay24 x) (k0_pay25 x) u (ix2 r d) = (u (ix3 0 r d) * x (ix2 0 r) : EReal) := by
  rw [← pay26_apply x r 0]
  pointwise [k0_pay28]

/-- The text codes times their scales. -/
theorem pay34_apply (x : FVec Ideal S1x1920 .f32) (v : FVec Ideal S1x1920x1024 .fp8e4m3) (r : Fin 1920) (d : Fin 1024) :
    k0_pay34 (F := Ideal) x (k0_pay29 v) (k0_pay30 x) (k0_pay31 x) (k0_pay32 x) (k0_pay33 x) (ix2 r d) = (v (ix3 0 r d) * x (ix2 0 r) : EReal) := by
  refine (scaled_apply (k0_pay29 v) (spread x) r d).trans ?_
  rw [spread_apply, pay29_apply]

/-- The row log-sum-exps as a row, in natural units. -/
theorem pay53_apply (x : FVec Ideal S1920x128 .f32) (r : Fin 1920) :
    k0_pay53 (F := Ideal) x (k0_pay40 x) (k0_pay41 x) (k0_pay42 x) (k0_pay43 x) (k0_pay44 x) (k0_pay45 x) (k0_pay46 x) (k0_pay47 x)
     (k0_pay48 x) (k0_pay49 x) (k0_pay50 x) (k0_pay51 x) (k0_pay52 x) (ix2 0 r) = (x (ix2 r 0) * Spec.l2 : EReal) := by
  refine (congrArg (· * _) (gather_apply x r)).trans ?_
  exact congrArg _ Consts.ln_2

/-- The row sums as a row. -/
theorem pay69_apply (x : FVec Ideal S1920x128 .f32) (r : Fin 1920) :
    k0_pay69 (F := Ideal) x (k0_pay57 x) (k0_pay58 x) (k0_pay59 x) (k0_pay60 x) (k0_pay61 x) (k0_pay62 x) (k0_pay63 x) (k0_pay64 x)
     (k0_pay65 x) (k0_pay66 x) (k0_pay67 x) (k0_pay68 x) (ix2 0 r) = x (ix2 r 0) :=
  gather_apply x r

end Cert.KernelIdeal.Val

end
-- ==== Proof.PayLoop.lean ====
/- The values the kernel computes stripe by stripe, read at an index over the extended reals. -/
module

public import proofs.«01_k».proof.Proof.Gen.KernelIdeal.Skeleton
public import proofs.«01_k».proof.Proof.Consts
public import proofs.«01_k».proof.Proof.Spec
public import Idealize.ShloMosaic.Lib.Pointwise

@[expose] public section

set_option maxRecDepth 16384

noncomputable section

namespace Cert.KernelIdeal.Val

open Idealize.ShloMosaic Cert.KernelIdeal Cert.KernelIdeal.Gen

section First

variable (v6 c s : FVec Ideal S1x1920 .f32) (a : FVec Ideal S1x384x1024 .fp8e4m3) (b : FVec Ideal S1x1920x1024 .fp8e4m3)
  (f : FVec Ideal S384x1 .f32)

/-- A stripe's base-two logits: the product of the codes times the row factor times the column scale. -/
theorem pay2_apply (r : Fin 384) (j : Fin 1920) :
    k0_pay2 (F := Ideal) v6 a b f (ix2 r j)
      = (∑ d : Fin 1024, a (ix3 0 r d) * b (ix3 0 j d) : EReal) * (f (ix2 r 0) * v6 (ix2 0 j) : EReal) := by
  pointwise [k0_pay2]

/-- The stored logits are the stripe's. -/
theorem pay3_apply (r : Fin 384) (j : Fin 1920) :
    k0_pay3 (F := Ideal) v6 a b f (ix2 r j) = k0_pay2 (F := Ideal) v6 a b f (ix2 r j) := by
  pointwise [k0_pay3]

/-- A stripe's row log-sum-exps, the same in every lane. -/
theorem pay4_apply (r : Fin 384) (l : Fin 128) :
    k0_pay4 (F := Ideal) v6 a b f (ix2 r l) = Spec.lse2 fun j => k0_pay2 (F := Ideal) v6 a b f (ix2 r j) := by
  unfold Spec.lse2 Spec.top
  pointwise [k0_pay4, Consts.log2_e, Consts.ofBits_neg_inf, Consts.exp2_def]

/-- The running column maximum after a stripe. -/
theorem pay5_apply (j : Fin 1920) :
    k0_pay5 (F := Ideal) v6 c a b f (ix2 0 j) = max (c (ix2 0 j)) (Spec.top fun r : Fin 384 => k0_pay2 (F := Ideal) v6 a b f (ix2 r j)) := by
  unfold Spec.top
  pointwise [k0_pay5, Consts.ofBits_neg_inf]

/-- The running column sum after a stripe. -/
theorem pay37_apply (j : Fin 1920) :
    k0_pay37 (F := Ideal) (k0_pay6 v6 c s a b f) (k0_pay7 v6 c a b f) (ix2 0 j)
      = (s (ix2 0 j) * Ideal.exp2 (c (ix2 0 j) - k0_pay5 (F := Ideal) v6 c a b f (ix2 0 j))
        + ∑ r : Fin 384, Ideal.exp2 (k0_pay2 (F := Ideal) v6 a b f (ix2 r j) - k0_pay5 (F := Ideal) v6 c a b f (ix2 0 j)) : EReal) := by
  pointwise [k0_pay37, k0_pay6, k0_pay7, Consts.exp2_def]

/-- The column maximum starts at minus infinity, -/
theorem pay35_apply (j : Fin 1920) : k0_pay35 (F := Ideal) (ix2 0 j) = (⊥ : EReal) := by
  pointwise [k0_pay35, Consts.ofBits_neg_inf]

/-- and the column sum at zero. -/
theorem pay36_apply (z : Ideal .f32) (j : Fin 1920) : k0_pay36 (F := Ideal) z (ix2 0 j) = z := by
  pointwise [k0_pay36]

/-- The column log-sum-exp from the column maximum and sum. -/
theorem pay38_apply (j : Fin 1920) : k0_pay38 (F := Ideal) c s (ix2 0 j) = (c (ix2 0 j) + Ideal.log (s (ix2 0 j)) * Spec.ke : EReal) := by
  pointwise [k0_pay38, Consts.log2_e]

/-- The same in natural units. -/
theorem pay39_apply (j : Fin 1920) :
    k0_pay39 (F := Ideal) c s (ix2 0 j) = ((c (ix2 0 j) + Ideal.log (s (ix2 0 j)) * Spec.ke) * Spec.l2 : EReal) := by
  pointwise [k0_pay39, k0_pay38, Consts.log2_e, Consts.ln_2]

end First

section Second

variable (a : FVec Ideal S1x1920 .f32) (k : Fin k0_t2_loop.trips) (x : FVec Ideal S384x1920 .f32) (f : FVec Ideal S384x1 .f32)

/-- The position of a stripe's row compared with a column, as the kernel spells it. -/
theorem diag_select {α : Type} (r : Fin 384) (j : Fin 1920) (y z : α) :
    Scalar.select (IntOp.cmpi CmpIPredicate.eq (IntOp.addi (BitVec.ofNat 32 r.val) (Scalar.muli (Scf.iv 0#32 1#32 k.val) 384#32)) (BitVec.ofNat 32 j.val)) y z
      = if 384 * k.val + r.val = j.val then y else z := by
  have hk : k.val < 5 := Nat.lt_of_lt_of_le k.isLt k0_t2_abs.2.1
  have hr := r.isLt
  have hj := j.isLt
  have h : (IntOp.addi (BitVec.ofNat 32 r.val) (Scalar.muli (Scf.iv 0#32 1#32 k.val) 384#32) = BitVec.ofNat 32 j.val) ↔ 384 * k.val + r.val = j.val := by
    rw [← BitVec.toNat_inj]
    simp [IntOp.addi, Scalar.muli, IntOp.muli, Scf.iv]
    omega
  by_cases he : 384 * k.val + r.val = j.val
  · rw [if_pos he]; simp [Scalar.select, IntOp.cmpi, h.mpr he]
  · rw [if_neg he]; simp only [Scalar.select, IntOp.cmpi, beq_eq_false_iff_ne.mpr (mt h.mp he)]; rfl

/-- A stripe's gradient. -/
theorem pay8_apply (r : Fin 384) (j : Fin 1920) :
    k0_pay8 (F := Ideal) a 0#32 1#32 k x f (ix2 r j)
      = (Ideal.exp2 (x (ix2 r j) - (f (ix2 r 0) + Spec.sh)) + Ideal.exp2 (x (ix2 r j) - (a (ix2 0 j) + Spec.sh))
        - (if 384 * k.val + r.val = j.val then Spec.inv else 0) : EReal) := by
  rw [← diag_select]
  pointwise [k0_pay8, Consts.log2_two_n, Consts.inv_n, Consts.exp2_def]

/-- A stripe's row sums of the gradient times the natural logit. -/
theorem pay9_apply (r : Fin 384) :
    k0_pay9 (F := Ideal) a 0#32 1#32 k x f (ix2 r 0)
      = ((∑ j : Fin 1920, k0_pay8 (F := Ideal) a 0#32 1#32 k x f (ix2 r j) * x (ix2 r j)) * Spec.l2 : EReal) := by
  pointwise [k0_pay9, Consts.ln_2]

/-- The stored row sums. -/
theorem pay10_apply (r : Fin 384) (l : Fin 128) :
    k0_pay10 (F := Ideal) a 0#32 1#32 k x f (ix2 r l) = k0_pay9 (F := Ideal) a 0#32 1#32 k x f (ix2 r 0) := by
  pointwise [k0_pay10]

/-- The gradient as multiplied, -/
theorem pay11_apply (r : Fin 384) (j : Fin 1920) :
    k0_pay11 (F := Ideal) a 0#32 1#32 k x f (ix2 r j) = k0_pay8 (F := Ideal) a 0#32 1#32 k x f (ix2 r j) := by
  pointwise [k0_pay11]

/-- and as stored. -/
theorem pay12_apply (r : Fin 384) (j : Fin 1920) :
    k0_pay12 (F := Ideal) a 0#32 1#32 k x f (ix2 r j) = k0_pay8 (F := Ideal) a 0#32 1#32 k x f (ix2 r j) := by
  pointwise [k0_pay12, k0_pay11]

/-- A stripe of the image gradient. -/
theorem pay55_apply (t : FVec Ideal S1x128 .f32) (g : FVec Ideal S384x1920 .bf16) (v : FVec Ideal S1920x1024 .bf16) (z : FVec Ideal S384x1024 .f32)
    (r : Fin 384) (d : Fin 1024) :
    k0_pay55 (F := Ideal) t g v z (ix3 0 r d)
      = ((z (ix2 r d) + ∑ j : Fin 1920, g (ix2 r j) * v (ix2 j d)) * t (ix2 0 0) : EReal) := by
  pointwise [k0_pay55]

/-- The running total after a stripe. -/
theorem pay56_apply (y : FVec Ideal S1x1 .f32) (g : FVec Ideal S384x1 .f32) :
    k0_pay56 (F := Ideal) y g (ix2 0 0) = (y (ix2 0 0) + ∑ r : Fin 384, g (ix2 r 0) : EReal) := by
  pointwise [k0_pay56]

end Second

section Last

/-- The temperature, in every lane. -/
theorem pay13_apply (x : Elt Ideal .f32) (l : Fin 128) : k0_pay13 (F := Ideal) x (ix2 0 l) = Ideal.exp x := by
  pointwise [k0_pay13]

/-- The total starts at zero. -/
theorem pay54_apply : k0_pay54 (F := Ideal) (ix2 0 0) = (0 : EReal) := by
  pointwise [k0_pay54]

/-- The total over the batches so far. -/
theorem pay70_apply (n : BitVec 32) (y d : FVec Ideal S1x1 .f32) :
    k0_pay70 (F := Ideal) n y d (ix2 0 0) = ((if n = 0#32 then (0 : EReal) else d (ix2 0 0)) + y (ix2 0 0) : EReal) := by
  have h : (Scalar.select (Scalar.cmpi .eq n 0#32) (0 : EReal) (d (ix2 0 0))) = if n = 0#32 then (0 : EReal) else d (ix2 0 0) := by
    by_cases he : n = 0#32
    · simp [Scalar.select, Scalar.cmpi, IntOp.cmpi, he]
    · rw [if_neg he]; simp only [Scalar.select, Scalar.cmpi, IntOp.cmpi, beq_eq_false_iff_ne.mpr he]; rfl
  rw [← h]
  pointwise [k0_pay70]

variable (t : FVec Ideal S1x128 .f32) (g : FVec Ideal S1920x384 .bf16) (u : FVec Ideal S1920x1024 .bf16) (r : Fin 384) (d : Fin 1024)

/-- A stripe of the text gradient, first form. -/
theorem pay71_apply : k0_pay71 (F := Ideal) t g u (ix3 0 r d)
      = ((∑ i : Fin 1920, g (ix2 i r) * u (ix2 i d)) * t (ix2 0 0) : EReal) := by
  pointwise [k0_pay71]

/-- A stripe of the text gradient, second form. -/
theorem pay73_apply : k0_pay73 (F := Ideal) (k0_pay72 t g u) (ix3 0 r d)
      = ((∑ i : Fin 1920, g (ix2 i r) * u (ix2 i d)) * t (ix2 0 0) : EReal) := by
  pointwise [k0_pay73, k0_pay72]

/-- A stripe of the text gradient, third form. -/
theorem pay74_apply : k0_pay74 (F := Ideal) t g u (ix3 0 r d)
      = ((∑ i : Fin 1920, g (ix2 i r) * u (ix2 i d)) * t (ix2 0 0) : EReal) := by
  pointwise [k0_pay74]

/-- A stripe of the text gradient, fourth form. -/
theorem pay75_apply : k0_pay75 (F := Ideal) t g u (ix3 0 r d)
      = ((∑ i : Fin 1920, g (ix2 i r) * u (ix2 i d)) * t (ix2 0 0) : EReal) := by
  pointwise [k0_pay75]

/-- A stripe of the text gradient, fifth form. -/
theorem pay1_apply : k0_pay1 (F := Ideal) (k0_pay76 t g u) (ix3 0 r d)
      = ((∑ i : Fin 1920, g (ix2 i r) * u (ix2 i d)) * t (ix2 0 0) : EReal) := by
  pointwise [k0_pay1, k0_pay76]

end Last

end Cert.KernelIdeal.Val

end
-- ==== Proof.EReals.lean ====
/- Facts on the extended reals: powers of two and of e, logarithms, and sums scaled by a positive real. -/
module

public import proofs.«01_k».proof.Proof.Spec

@[expose] public section

noncomputable section

namespace Cert.EReals

open Idealize.ShloMosaic

/-- A power of two is not negative. -/
theorem exp2_nonneg (x : EReal) : 0 ≤ Ideal.exp2 x := by
  induction x using EReal.rec with
  | bot => simp
  | top => simp
  | coe r => rw [Ideal.exp2_coe]; exact_mod_cast Real.rpow_nonneg (by norm_num) r

/-- Multiplication by any value distributes over a sum of values that are not negative. -/
theorem sum_mul_of_nonneg {ι : Type} (s : Finset ι) (f : ι → EReal) (c : EReal) (h : ∀ i ∈ s, 0 ≤ f i) :
    (∑ i ∈ s, f i) * c = ∑ i ∈ s, f i * c := by
  classical
  induction s using Finset.induction_on with
  | empty => simp
  | insert a s ha ih =>
    rw [Finset.sum_insert ha, Finset.sum_insert ha, EReal.right_distrib_of_nonneg (h a (by simp)) (Finset.sum_nonneg fun i hi => h i (by simp [hi])),
      ih fun i hi => h i (by simp [hi])]

/-- Rebasing a power of two from `c` to a larger `n`. -/
theorem exp2_rebase {a c n : EReal} (hac : a ≤ c) (hcn : c ≤ n) :
    Ideal.exp2 (a - c) * Ideal.exp2 (c - n) = Ideal.exp2 (a - n) := by
  induction a using EReal.rec with
  | bot =>
    rw [EReal.bot_sub, EReal.bot_sub, Ideal.exp2_bot, zero_mul]
  | top =>
    obtain rfl := top_le_iff.mp hac
    obtain rfl := top_le_iff.mp hcn
    simp
  | coe a =>
    induction c using EReal.rec with
    | bot => simp at hac
    | top =>
      obtain rfl := top_le_iff.mp hcn
      simp
    | coe c =>
      induction n using EReal.rec with
      | bot => simp at hcn
      | top => simp
      | coe n =>
        rw [← EReal.coe_sub, ← EReal.coe_sub, ← EReal.coe_sub, Ideal.exp2_coe, Ideal.exp2_coe, Ideal.exp2_coe, ← EReal.coe_mul]
        congr 1
        simp only [Real.rpow_eq_pow]
        rw [← Real.rpow_add (by norm_num)]
        congr 1
        ring

end Cert.EReals

end
-- ==== Proof.Stripes.lean ====
/- Sums and maxima over the rows taken stripe by stripe, 384 rows at a time. -/
module

public import proofs.«01_k».proof.Proof.Spec
public import proofs.«01_k».proof.Proof.EReals

@[expose] public section

noncomputable section

namespace Cert.KernelIdeal.Val

open Idealize.ShloMosaic

/-- The rows of the first `k` stripes. -/
def rows (k : ℕ) : Finset (Fin 1920) := Finset.univ.filter fun i => i.val < 384 * k

/-- Row `r` of stripe `k`. -/
def stripe (k : ℕ) (hk : k < 5) (r : Fin 384) : Fin 1920 := ⟨384 * k + r.val, by omega⟩

/-- Before the first stripe there are no rows, -/
theorem rows_zero : rows 0 = ∅ := by
  ext i; simp [rows]

/-- and after the fifth there are all of them. -/
theorem rows_five : rows 5 = Finset.univ := by
  ext i; have := i.isLt; simp [rows]

/-- A stripe's rows are distinct. -/
theorem stripe_injective (k : ℕ) (hk : k < 5) : Function.Injective (stripe k hk) := fun r s h => by
  have := congrArg Fin.val h
  simp only [stripe] at this
  exact Fin.ext (by omega)

/-- A row in a stripe's range is one of its rows. -/
theorem exists_stripe (k : ℕ) (hk : k < 5) (i : Fin 1920) (h : 384 * k ≤ i.val) (h' : i.val < 384 * (k + 1)) : ∃ r, i = stripe k hk r :=
  ⟨⟨i.val - 384 * k, by omega⟩, Fin.ext (by simp only [stripe]; omega)⟩

/-- One more stripe adds its rows. -/
theorem rows_succ (k : ℕ) (hk : k < 5) : rows (k + 1) = rows k ∪ Finset.univ.image (stripe k hk) := by
  ext i
  simp only [rows, Finset.mem_filter, Finset.mem_univ, true_and, Finset.mem_union, Finset.mem_image]
  constructor
  · intro h
    by_cases hi : i.val < 384 * k
    · exact Or.inl hi
    · obtain ⟨r, hr⟩ := exists_stripe k hk i (by omega) h
      exact Or.inr ⟨r, hr.symm⟩
  · rintro (h | ⟨r, rfl⟩)
    · omega
    · have := r.isLt; simp only [stripe]; omega

/-- A stripe meets none of the rows before it. -/
theorem rows_disjoint (k : ℕ) (hk : k < 5) : Disjoint (rows k) (Finset.univ.image (stripe k hk)) := by
  rw [Finset.disjoint_left]
  intro i hi hj
  obtain ⟨r, _, rfl⟩ := Finset.mem_image.mp hj
  have := (Finset.mem_filter.mp hi).2
  simp only [stripe] at this
  omega

/-- A sum over one more stripe. -/
theorem sum_rows_succ (k : ℕ) (hk : k < 5) (f : Fin 1920 → EReal) :
    ∑ i ∈ rows (k + 1), f i = ∑ i ∈ rows k, f i + ∑ r, f (stripe k hk r) := by
  rw [rows_succ k hk, Finset.sum_union (rows_disjoint k hk), Finset.sum_image fun a _ b _ h => stripe_injective k hk h]

/-- The largest value of a family is its supremum. -/
theorem top_eq_sup {n : ℕ} (f : Fin n → EReal) : Spec.top f = Finset.univ.sup f := rfl

/-- A maximum over one more stripe. -/
theorem sup_rows_succ (k : ℕ) (hk : k < 5) (f : Fin 1920 → EReal) :
    (rows (k + 1)).sup f = max ((rows k).sup f) (Spec.top fun r => f (stripe k hk r)) := by
  rw [rows_succ k hk, Finset.sup_union, Finset.sup_image, top_eq_sup]
  rfl

/-- The running sum of powers, rebased to the new maximum, plus the new stripe's. -/
theorem online_step (k : ℕ) (hk : k < 5) (f : Fin 1920 → EReal) :
    ∑ i ∈ rows (k + 1), Ideal.exp2 (f i - (rows (k + 1)).sup f)
      = (∑ i ∈ rows k, Ideal.exp2 (f i - (rows k).sup f)) * Ideal.exp2 ((rows k).sup f - (rows (k + 1)).sup f)
        + ∑ r, Ideal.exp2 (f (stripe k hk r) - (rows (k + 1)).sup f) := by
  rw [sum_rows_succ k hk]
  congr 1
  rw [EReals.sum_mul_of_nonneg _ _ _ fun i _ => EReals.exp2_nonneg _]
  refine Finset.sum_congr rfl fun i hi => ?_
  rw [EReals.exp2_rebase (Finset.le_sup hi) (by rw [sup_rows_succ k hk]; exact le_max_left _ _)]

end Cert.KernelIdeal.Val

end
-- ==== Proof.Loop1.lean ====
/- What the kernel's first loop leaves: the logits, the row log-sum-exps, and the running column maximum and sum. -/
module

public import proofs.«01_k».proof.Proof.Gen.KernelIdeal.Loops
public import proofs.«01_k».proof.Proof.PayLoop
public import proofs.«01_k».proof.Proof.Stripes
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.KernelIdeal.Val

open Idealize.ShloMosaic Cert.KernelIdeal Cert.KernelIdeal.Gen

/-- What the first loop holds after `k` stripes: the running column maximum and sum of the rows so far, and those rows'
logits and row log-sum-exps in the two buffers it writes, whatever they held before. -/
structure After1 (arg12 : Memref sig .tc .vmem S1920x1920 .f32) (arg17 : Memref sig .tc .vmem S1920x128 .f32) (L : Spec.Mat) (k : ℕ)
    (st : (FVec Ideal S1x1920 .f32 × FVec Ideal S1x1920 .f32) × List (View.Piece (Elt Ideal) S1920x1920 .f32) × List (View.Piece (Elt Ideal) S1920x128 .f32)) : Prop where
  top : ∀ j, st.1.1 (ix2 0 j) = (rows k).sup fun i => L i j
  sum : ∀ j, st.1.2 (ix2 0 j) = (∑ i ∈ rows k, Ideal.exp2 (L i j - (rows k).sup fun i => L i j) : EReal)
  logits : ∀ (f : BufTy.Contents (Elt Ideal) arg12.view.ty) (i j : Fin 1920), i.val < 384 * k →
    arg12.view.read (Elt Ideal) (arg12.view.writes (Elt Ideal) f st.2.1) (ix2 i j) = L i j
  lse : ∀ (f : BufTy.Contents (Elt Ideal) arg17.view.ty) (i : Fin 1920) (l : Fin 128), i.val < 384 * k →
    arg17.view.read (Elt Ideal) (arg17.view.writes (Elt Ideal) f st.2.2) (ix2 i l) = Spec.lse2 (L i)

variable (𝒱 : Variants) (c : Dev nD) (bd : Option 𝒱.V) (i : grid0.Coords) (arg1 : Memref sig .tc .smem S1x1 .f32) (harg1 : arg1.IsWhole) (arg2 : Memref sig .tc .vmem S1x1920x1024 .fp8e4m3) (harg2 : arg2.IsWhole) (arg3 : Memref sig .tc .vmem S1x1920x1024 .fp8e4m3) (harg3 : arg3.IsWhole) (arg4 : Memref sig .tc .vmem S2x1920 .f32) (harg4 : arg4.IsWhole) (arg5 : Memref sig .tc .vmem S2x1920 .f32) (harg5 : arg5.IsWhole) (arg6 : Memref sig .tc .vmem S1x1920x1024 .bf16) (harg6 : arg6.IsWhole) (arg7 : Memref sig .tc .vmem S1x1920x1024 .bf16) (harg7 : arg7.IsWhole) (arg8 : Memref sig .tc .vmem S1x1 .f32) (harg8 : arg8.IsWhole) (arg9 : Memref sig .tc .vmem S2x1920 .f32) (harg9 : arg9.IsWhole) (arg10 : Memref sig .tc .vmem S2x1920 .f32) (harg10 : arg10.IsWhole) (arg11 : Memref sig .tc .vmem S2x1920 .f32) (harg11 : arg11.IsWhole) (arg12 : Memref sig .tc .vmem S1920x1920 .f32) (harg12 : arg12.IsWhole) (arg13 : Memref sig .tc .vmem S1920x1920 .bf16) (harg13 : arg13.IsWhole) (arg14 : Memref sig .tc .vmem S1920x1024 .bf16) (harg14 : arg14.IsWhole) (arg15 : Memref sig .tc .vmem S1920x1024 .bf16) (harg15 : arg15.IsWhole) (arg16 : Memref sig .tc .vmem S1920x128 .f32) (harg16 : arg16.IsWhole) (arg17 : Memref sig .tc .vmem S1920x128 .f32) (harg17 : arg17.IsWhole) (arg18 : Memref sig .tc .vmem S1920x128 .f32) (harg18 : arg18.IsWhole)
  (arg0 : BitVec 32) (v6 v156 : FVec Ideal S1x1920 .f32) (cst_16 : Ideal .f32)
  (X2 : BufTy.Contents (Elt Ideal) arg2.view.ty) (X3 : BufTy.Contents (Elt Ideal) arg3.view.ty) (X16 : BufTy.Contents (Elt Ideal) arg16.view.ty)
  (L : Spec.Mat)

/-- Stripe `k`'s logits, from what the loop reads, are rows `384 k` to `384 k + 383` of the table. -/
theorem stripe_logit (hL : ∀ a j, L a j = (∑ d : Fin 1024, arg2.view.read (Elt Ideal) X2 (ix3 0 a d) * arg3.view.read (Elt Ideal) X3 (ix3 0 j d) : EReal)
      * (arg16.view.read (Elt Ideal) X16 (ix2 a 0) * v6 (ix2 0 j) : EReal))
    (k : Fin k0_t1_loop.trips) (hk : k.val < 5) (r : Fin 384) (j : Fin 1920) :
    k0_pay2 (F := Ideal) v6
      (View.readAt (Elt Ideal) arg2.view (Rect.unit (s := S1x1920x1024) (k0_off2 k) S1x384x1024.size (k0_off2_inb k)).toLoadRect X2)
      (View.readAt (Elt Ideal) arg3.view (Rect.unit (s := S1x1920x1024) ![0, 0, 0] S1x1920x1024.size inb_S1x1920x1024_S1x1920x1024_0_0_0).toLoadRect X3)
      (View.readAt (Elt Ideal) arg16.view (Rect.unit (s := S1920x128) (k0_off3 k) S384x1.size (k0_off3_inb k)).toLoadRect X16) (ix2 r j)
      = L (stripe k.val hk r) j := by
  rw [pay2_apply, hL]
  have h2 : ∀ d : Fin 1024, (View.readAt (Elt Ideal) arg2.view (Rect.unit (s := S1x1920x1024) (k0_off2 k) S1x384x1024.size (k0_off2_inb k)).toLoadRect X2 : FVec Ideal S1x384x1024 .fp8e4m3) (ix3 0 r d)
      = arg2.view.read (Elt Ideal) X2 (ix3 0 (stripe k.val hk r) d) := by
    intro d
    refine congrArg (arg2.view.read (Elt Ideal) X2) (funext fun a => Fin.ext ?_)
    have := k0_off2_eq k
    fin_cases a <;> simp [this, stripe]
  have h3 : ∀ d : Fin 1024, (View.readAt (Elt Ideal) arg3.view (Rect.unit (s := S1x1920x1024) ![0, 0, 0] S1x1920x1024.size inb_S1x1920x1024_S1x1920x1024_0_0_0).toLoadRect X3 : FVec Ideal S1x1920x1024 .fp8e4m3) (ix3 0 j d)
      = arg3.view.read (Elt Ideal) X3 (ix3 0 j d) := by
    intro d
    refine congrArg (arg3.view.read (Elt Ideal) X3) (funext fun a => Fin.ext ?_)
    fin_cases a <;> simp
  have h16 : (View.readAt (Elt Ideal) arg16.view (Rect.unit (s := S1920x128) (k0_off3 k) S384x1.size (k0_off3_inb k)).toLoadRect X16 : FVec Ideal S384x1 .f32) (ix2 r 0)
      = arg16.view.read (Elt Ideal) X16 (ix2 (stripe k.val hk r) 0) := by
    refine congrArg (arg16.view.read (Elt Ideal) X16) (funext fun a => Fin.ext ?_)
    have := k0_off3_eq k
    fin_cases a <;> simp [this, stripe]
  simp only [h2, h3, h16]

/-- The first loop after `k` stripes. -/
theorem after1 (hL : ∀ a j, L a j = (∑ d : Fin 1024, arg2.view.read (Elt Ideal) X2 (ix3 0 a d) * arg3.view.read (Elt Ideal) X3 (ix3 0 j d) : EReal)
      * (arg16.view.read (Elt Ideal) X16 (ix2 a 0) * v6 (ix2 0 j) : EReal)) (z : Ideal .f32) (hz : z = (0 : EReal)) :
    ∀ k : ℕ, k ≤ k0_t1_loop.trips → After1 arg12 arg17 L k
      (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v6 v156 cst_16 X2 X3 X16 (k0_pay35, k0_pay36 z) k)
  | 0, _ => by
    refine ⟨fun j => ?_, fun j => ?_, fun f i j h => absurd h (by omega), fun f i l h => absurd h (by omega)⟩
    · rw [rows_zero]; exact pay35_apply j
    · rw [rows_zero]; exact (pay36_apply z j).trans hz
  | k + 1, hk => by
    have ih := after1 hL z hz k (Nat.le_of_succ_le hk)
    have hs := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v6 v156 cst_16 X2 X3 X16 (k0_pay35, k0_pay36 z) ⟨k, hk⟩
    have hk5 : k < 5 := Nat.lt_of_lt_of_le hk k0_t1_abs.2.1
    have hX := stripe_logit arg2 arg3 arg16 v6 X2 X3 X16 L hL ⟨k, hk⟩ hk5
    generalize st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v6 v156 cst_16 X2 X3 X16 (k0_pay35, k0_pay36 z) k = st at hs ih
    simp only at hs
    rw [hs]
    unfold tripR_k0_t1 trip_k0_t1
    dsimp only
    have htop : ∀ j, k0_pay5 (F := Ideal) v6 st.1.1
        (View.readAt (Elt Ideal) arg2.view (Rect.unit (s := S1x1920x1024) (k0_off2 ⟨k, hk⟩) S1x384x1024.size (k0_off2_inb ⟨k, hk⟩)).toLoadRect X2)
        (View.readAt (Elt Ideal) arg3.view (Rect.unit (s := S1x1920x1024) ![0, 0, 0] S1x1920x1024.size inb_S1x1920x1024_S1x1920x1024_0_0_0).toLoadRect X3)
        (View.readAt (Elt Ideal) arg16.view (Rect.unit (s := S1920x128) (k0_off3 ⟨k, hk⟩) S384x1.size (k0_off3_inb ⟨k, hk⟩)).toLoadRect X16) (ix2 0 j)
          = (rows (k + 1)).sup fun i => L i j := by
      intro j
      rw [pay5_apply, ih.top]
      simp only [hX]
      exact (sup_rows_succ k hk5 _).symm
    refine ⟨fun j => htop j, fun j => ?_, fun f i j h => ?_, fun f i l h => ?_⟩
    · refine (pay37_apply _ _ _ _ _ _ j).trans ?_
      rw [htop, ih.top, ih.sum]
      simp only [hX]
      exact (online_step k hk5 fun i => L i j).symm
    · by_cases hi : i.val < 384 * k
      · rw [List.singleton_append]
        refine (View.read_writes_cons_rows_of_not_mem (d := ![1920, 1920]) arg12.view f _ _ _ (ix2 i j) (k0_off4_eq ⟨k, hk⟩) (W := 384) rfl (Or.inl hi)).trans ?_
        exact ih.logits f i j hi
      · obtain ⟨r, hr⟩ := exists_stripe k hk5 i (by omega) h
        rw [List.singleton_append]
        refine (View.read_writes_cons_rows_of_mem (d := ![1920, 1920]) arg12.view f _ _ _ (ix2 i j) (ix2 r j) (k0_off4_eq ⟨k, hk⟩) ?_ rfl).trans ?_
        · exact congrArg Fin.val hr
        · rw [pay3_apply, hX, hr]
    · by_cases hi : i.val < 384 * k
      · rw [List.singleton_append]
        refine (View.read_writes_cons_rows_of_not_mem (d := ![1920, 128]) arg17.view f _ _ _ (ix2 i l) (k0_off5_eq ⟨k, hk⟩) (W := 384) rfl (Or.inl hi)).trans ?_
        exact ih.lse f i l hi
      · obtain ⟨r, hr⟩ := exists_stripe k hk5 i (by omega) h
        rw [List.singleton_append]
        refine (View.read_writes_cons_rows_of_mem (d := ![1920, 128]) arg17.view f _ _ _ (ix2 i l) (ix2 r l) (k0_off5_eq ⟨k, hk⟩) ?_ rfl).trans ?_
        · exact congrArg Fin.val hr
        · rw [pay4_apply]
          simp only [hX]
          rw [hr]

end Cert.KernelIdeal.Val

end
-- ==== Proof.Loop2.lean ====
/- What the kernel's second loop leaves: the gradient, its row sums and total, and the image gradient. -/
module

public import proofs.«01_k».proof.Proof.Gen.KernelIdeal.Loops
public import proofs.«01_k».proof.Proof.PayLoop
public import proofs.«01_k».proof.Proof.Stripes
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.KernelIdeal.Val

open Idealize.ShloMosaic Cert.KernelIdeal Cert.KernelIdeal.Gen

/-- What the second loop holds after `k` stripes: the total of the rows so far, and those rows' gradients, row sums and
image gradients in the three buffers it writes, whatever they held before. -/
structure After2 (arg6 : Memref sig .tc .vmem S1x1920x1024 .bf16) (arg13 : Memref sig .tc .vmem S1920x1920 .bf16) (arg18 : Memref sig .tc .vmem S1920x128 .f32)
    (L : Spec.Mat) (V : Fin 1920 → Fin 1024 → EReal) (t : EReal) (k : ℕ)
    (st : FVec Ideal S1x1 .f32 × List (View.Piece (Elt Ideal) S1x1920x1024 .bf16) × List (View.Piece (Elt Ideal) S1920x1920 .bf16) × List (View.Piece (Elt Ideal) S1920x128 .f32)) : Prop where
  total : st.1 (ix2 0 0) = (∑ i ∈ rows k, Spec.rowSum L i : EReal)
  img : ∀ (f : BufTy.Contents (Elt Ideal) arg6.view.ty) (i : Fin 1920) (d : Fin 1024), i.val < 384 * k →
    arg6.view.read (Elt Ideal) (arg6.view.writes (Elt Ideal) f st.2.1) (ix3 0 i d) = ((∑ j, Spec.grad L i j * V j d) * t : EReal)
  grad : ∀ (f : BufTy.Contents (Elt Ideal) arg13.view.ty) (i j : Fin 1920), i.val < 384 * k →
    arg13.view.read (Elt Ideal) (arg13.view.writes (Elt Ideal) f st.2.2.1) (ix2 i j) = Spec.grad L i j
  rowSum : ∀ (f : BufTy.Contents (Elt Ideal) arg18.view.ty) (i : Fin 1920) (l : Fin 128), i.val < 384 * k →
    arg18.view.read (Elt Ideal) (arg18.view.writes (Elt Ideal) f st.2.2.2) (ix2 i l) = Spec.rowSum L i

variable (𝒱 : Variants) (c : Dev nD) (bd : Option 𝒱.V) (i : grid0.Coords) (arg1 : Memref sig .tc .smem S1x1 .f32) (harg1 : arg1.IsWhole) (arg2 : Memref sig .tc .vmem S1x1920x1024 .fp8e4m3) (harg2 : arg2.IsWhole) (arg3 : Memref sig .tc .vmem S1x1920x1024 .fp8e4m3) (harg3 : arg3.IsWhole) (arg4 : Memref sig .tc .vmem S2x1920 .f32) (harg4 : arg4.IsWhole) (arg5 : Memref sig .tc .vmem S2x1920 .f32) (harg5 : arg5.IsWhole) (arg6 : Memref sig .tc .vmem S1x1920x1024 .bf16) (harg6 : arg6.IsWhole) (arg7 : Memref sig .tc .vmem S1x1920x1024 .bf16) (harg7 : arg7.IsWhole) (arg8 : Memref sig .tc .vmem S1x1 .f32) (harg8 : arg8.IsWhole) (arg9 : Memref sig .tc .vmem S2x1920 .f32) (harg9 : arg9.IsWhole) (arg10 : Memref sig .tc .vmem S2x1920 .f32) (harg10 : arg10.IsWhole) (arg11 : Memref sig .tc .vmem S2x1920 .f32) (harg11 : arg11.IsWhole) (arg12 : Memref sig .tc .vmem S1920x1920 .f32) (harg12 : arg12.IsWhole) (arg13 : Memref sig .tc .vmem S1920x1920 .bf16) (harg13 : arg13.IsWhole) (arg14 : Memref sig .tc .vmem S1920x1024 .bf16) (harg14 : arg14.IsWhole) (arg15 : Memref sig .tc .vmem S1920x1024 .bf16) (harg15 : arg15.IsWhole) (arg16 : Memref sig .tc .vmem S1920x128 .f32) (harg16 : arg16.IsWhole) (arg17 : Memref sig .tc .vmem S1920x128 .f32) (harg17 : arg17.IsWhole) (arg18 : Memref sig .tc .vmem S1920x128 .f32) (harg18 : arg18.IsWhole)
  (arg0 : BitVec 32) (v2 : FVec Ideal S1x128 .f32) (v163 : FVec Ideal S1x1920 .f32) (v168 : FVec Ideal S1920x128 .f32)
  (v171 v174 v177 v180 v183 v186 v189 v192 v195 v198 v201 v204 : FVec Ideal S1x128 .f32) (v206 : FVec Ideal S128x128 .f32)
  (X12 : BufTy.Contents (Elt Ideal) arg12.view.ty) (X15 : BufTy.Contents (Elt Ideal) arg15.view.ty) (X17 : BufTy.Contents (Elt Ideal) arg17.view.ty)
  (L : Spec.Mat)

/-- Stripe `k`'s gradient, from what the loop reads, is rows `384 k` to `384 k + 383` of the gradient. -/
theorem stripe_grad (hX : ∀ i j, arg12.view.read (Elt Ideal) X12 (ix2 i j) = L i j)
    (hF : ∀ i, arg17.view.read (Elt Ideal) X17 (ix2 i 0) = Spec.lse2 (L i))
    (ha : ∀ j, v163 (ix2 0 j) = Spec.lse2 fun i => L i j) (k : Fin k0_t2_loop.trips) (hk : k.val < 5) (r : Fin 384) (j : Fin 1920) :
    k0_pay8 (F := Ideal) v163 0#32 1#32 k (View.readAt (Elt Ideal) arg12.view (Rect.unit (s := S1920x1920) (k0_off6 k) S384x1920.size (k0_off6_inb k)).toLoadRect X12) (View.readAt (Elt Ideal) arg17.view (Rect.unit (s := S1920x128) (k0_off7 k) S384x1.size (k0_off7_inb k)).toLoadRect X17) (ix2 r j) = Spec.grad L (stripe k.val hk r) j := by
  have h12 : ((View.readAt (Elt Ideal) arg12.view (Rect.unit (s := S1920x1920) (k0_off6 k) S384x1920.size (k0_off6_inb k)).toLoadRect X12) : FVec Ideal S384x1920 .f32) (ix2 r j) = L (stripe k.val hk r) j := by
    refine (congrArg (arg12.view.read (Elt Ideal) X12) (funext fun a => Fin.ext ?_)).trans (hX _ _)
    have := k0_off6_eq k
    fin_cases a <;> simp [this, stripe]
  have h17 : ((View.readAt (Elt Ideal) arg17.view (Rect.unit (s := S1920x128) (k0_off7 k) S384x1.size (k0_off7_inb k)).toLoadRect X17) : FVec Ideal S384x1 .f32) (ix2 r 0) = Spec.lse2 (L (stripe k.val hk r)) := by
    refine (congrArg (arg17.view.read (Elt Ideal) X17) (funext fun a => Fin.ext ?_)).trans (hF _)
    have := k0_off7_eq k
    fin_cases a <;> simp [this, stripe]
  rw [pay8_apply, h12, h17, ha, Spec.grad]
  congr 1
  by_cases h : 384 * k.val + r.val = j.val
  · rw [if_pos h, if_pos (Fin.ext h)]
  · rw [if_neg h, if_neg fun e => h (congrArg Fin.val e)]

/-- Stripe `k`'s row sums. -/
theorem stripe_rowSum (hX : ∀ i j, arg12.view.read (Elt Ideal) X12 (ix2 i j) = L i j)
    (hF : ∀ i, arg17.view.read (Elt Ideal) X17 (ix2 i 0) = Spec.lse2 (L i))
    (ha : ∀ j, v163 (ix2 0 j) = Spec.lse2 fun i => L i j) (k : Fin k0_t2_loop.trips) (hk : k.val < 5) (r : Fin 384) :
    k0_pay9 (F := Ideal) v163 0#32 1#32 k (View.readAt (Elt Ideal) arg12.view (Rect.unit (s := S1920x1920) (k0_off6 k) S384x1920.size (k0_off6_inb k)).toLoadRect X12) (View.readAt (Elt Ideal) arg17.view (Rect.unit (s := S1920x128) (k0_off7 k) S384x1.size (k0_off7_inb k)).toLoadRect X17) (ix2 r 0) = Spec.rowSum L (stripe k.val hk r) := by
  have h12 : ∀ j, ((View.readAt (Elt Ideal) arg12.view (Rect.unit (s := S1920x1920) (k0_off6 k) S384x1920.size (k0_off6_inb k)).toLoadRect X12) : FVec Ideal S384x1920 .f32) (ix2 r j) = L (stripe k.val hk r) j := by
    intro j
    refine (congrArg (arg12.view.read (Elt Ideal) X12) (funext fun a => Fin.ext ?_)).trans (hX _ _)
    have := k0_off6_eq k
    fin_cases a <;> simp [this, stripe]
  rw [pay9_apply, Spec.rowSum]
  simp only [h12, stripe_grad arg12 arg17 v163 X12 X17 L hX hF ha k hk r]

/-- The second loop after `k` stripes. -/
theorem after2 (hX : ∀ i j, arg12.view.read (Elt Ideal) X12 (ix2 i j) = L i j)
    (hF : ∀ i, arg17.view.read (Elt Ideal) X17 (ix2 i 0) = Spec.lse2 (L i))
    (ha : ∀ j, v163 (ix2 0 j) = Spec.lse2 fun i => L i j) (V : Fin 1920 → Fin 1024 → EReal) (hV : ∀ j d, arg15.view.read (Elt Ideal) X15 (ix2 j d) = V j d) :
    ∀ k : ℕ, k ≤ k0_t2_loop.trips → After2 arg6 arg13 arg18 L V (v2 (ix2 0 0)) k
      (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v2 v163 v168 v171 v174 v177 v180 v183 v186 v189 v192 v195 v198 v201 v204 v206 X12 X15 X17 k0_pay54 k)
  | 0, _ => by
    refine ⟨?_, fun f i d h => absurd h (by omega), fun f i j h => absurd h (by omega), fun f i l h => absurd h (by omega)⟩
    rw [rows_zero]; exact pay54_apply
  | k + 1, hk => by
    have ih := after2 hX hF ha V hV k (Nat.le_of_succ_le hk)
    have hs := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v2 v163 v168 v171 v174 v177 v180 v183 v186 v189 v192 v195 v198 v201 v204 v206 X12 X15 X17 k0_pay54 ⟨k, hk⟩
    have hk5 : k < 5 := Nat.lt_of_lt_of_le hk k0_t2_abs.2.1
    have hG := stripe_grad arg12 arg17 v163 X12 X17 L hX hF ha ⟨k, hk⟩ hk5
    have hR := stripe_rowSum arg12 arg17 v163 X12 X17 L hX hF ha ⟨k, hk⟩ hk5
    have hV' : ∀ j d, (View.readAt (Elt Ideal) arg15.view (Rect.unit (s := S1920x1024) ![0, 0] S1920x1024.size inb_S1920x1024_S1920x1024_0_0).toLoadRect X15 : FVec Ideal S1920x1024 .bf16) (ix2 j d) = V j d := by
      intro j d
      refine (congrArg (arg15.view.read (Elt Ideal) X15) (funext fun a => Fin.ext ?_)).trans (hV _ _)
      fin_cases a <;> simp
    generalize st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v2 v163 v168 v171 v174 v177 v180 v183 v186 v189 v192 v195 v198 v201 v204 v206 X12 X15 X17 k0_pay54 k = st at hs ih
    simp only at hs
    rw [hs]
    unfold tripR_k0_t2 trip_k0_t2
    dsimp only
    refine ⟨?_, fun f i d h => ?_, fun f i j h => ?_, fun f i l h => ?_⟩
    · refine (pay56_apply _ _).trans ?_
      rw [ih.total, sum_rows_succ k hk5]
      exact congrArg₂ _ rfl (Finset.sum_congr rfl fun r _ => hR r)
    · rw [List.singleton_append]
      by_cases hi : i.val < 384 * k
      · refine (View.read_writes_cons_unit_of_not_mem arg6.view f _ _ _ (ix3 0 i d) (k0_off9_eq ⟨k, hk⟩) 1 (Or.inl hi)).trans ?_
        exact ih.img f i d hi
      · obtain ⟨r, hr⟩ := exists_stripe k hk5 i (by omega) h
        refine (View.read_writes_cons_unit_of_mem arg6.view f _ _ _ (ix3 0 i d) (ix3 0 r d) (k0_off9_eq ⟨k, hk⟩) ?_).trans ?_
        · intro a
          have := congrArg Fin.val hr
          fin_cases a <;> simp_all [stripe]
        · refine (pay55_apply _ _ _ _ r d).trans ?_
          have hz : (constant S384x1024 .f32 0x00000000#32 : FVec Ideal S384x1024 .f32) (ix2 r d) = (0 : EReal) := by
            pointwise []
          sl_unfold_words
          simp only [pay11_apply, hV', hz, zero_add]
          rw [hr]
          exact congrArg (fun y : EReal => y * v2 (ix2 0 0)) (Finset.sum_congr rfl fun x _ => congrArg (fun y : EReal => y * V x d) (hG r x))
    · rw [List.singleton_append]
      by_cases hi : i.val < 384 * k
      · refine (View.read_writes_cons_rows_of_not_mem (d := ![1920, 1920]) arg13.view f _ _ _ (ix2 i j) (k0_off6_eq ⟨k, hk⟩) (W := 384) rfl (Or.inl hi)).trans ?_
        exact ih.grad f i j hi
      · obtain ⟨r, hr⟩ := exists_stripe k hk5 i (by omega) h
        refine (View.read_writes_cons_rows_of_mem (d := ![1920, 1920]) arg13.view f _ _ _ (ix2 i j) (ix2 r j) (k0_off6_eq ⟨k, hk⟩) ?_ rfl).trans ?_
        · exact congrArg Fin.val hr
        · refine (pay12_apply _ _ _ _ r j).trans ?_
          rw [hG, hr]
    · rw [List.singleton_append]
      by_cases hi : i.val < 384 * k
      · refine (View.read_writes_cons_rows_of_not_mem (d := ![1920, 128]) arg18.view f _ _ _ (ix2 i l) (k0_off8_eq ⟨k, hk⟩) (W := 384) rfl (Or.inl hi)).trans ?_
        exact ih.rowSum f i l hi
      · obtain ⟨r, hr⟩ := exists_stripe k hk5 i (by omega) h
        refine (View.read_writes_cons_rows_of_mem (d := ![1920, 128]) arg18.view f _ _ _ (ix2 i l) (ix2 r l) (k0_off8_eq ⟨k, hk⟩) ?_ rfl).trans ?_
        · exact congrArg Fin.val hr
        · refine (pay10_apply _ _ _ _ r l).trans ?_
          rw [hR, hr]

end Cert.KernelIdeal.Val

end
-- ==== Proof.KernelRun.lean ====
/- The kernel's body, run once at a grid point on any staging buffers: what each buffer is left holding. -/
module

public import proofs.«01_k».proof.Proof.Gen.KernelIdeal.Frame
public import proofs.«01_k».proof.Proof.Gen.KernelIdeal.Skeleton
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run: from the inputs at `x0` … `x4` and every other buffer at named contents, the outputs end as
    the listed pieces written over what they held, and the inputs are as they were. -/
@[irreducible] def kernelRun (c : Dev nD) (i : grid0.Coords) (arg1 : Memref sig .tc .smem S1x1 .f32) (harg1 : arg1.IsWhole) (arg2 : Memref sig .tc .vmem S1x1920x1024 .fp8e4m3) (harg2 : arg2.IsWhole) (arg3 : Memref sig .tc .vmem S1x1920x1024 .fp8e4m3) (harg3 : arg3.IsWhole) (arg4 : Memref sig .tc .vmem S2x1920 .f32) (harg4 : arg4.IsWhole) (arg5 : Memref sig .tc .vmem S2x1920 .f32) (harg5 : arg5.IsWhole) (arg6 : Memref sig .tc .vmem S1x1920x1024 .bf16) (harg6 : arg6.IsWhole) (arg7 : Memref sig .tc .vmem S1x1920x1024 .bf16) (harg7 : arg7.IsWhole) (arg8 : Memref sig .tc .vmem S1x1 .f32) (harg8 : arg8.IsWhole) (arg9 : Memref sig .tc .vmem S2x1920 .f32) (harg9 : arg9.IsWhole) (arg10 : Memref sig .tc .vmem S2x1920 .f32) (harg10 : arg10.IsWhole) (arg11 : Memref sig .tc .vmem S2x1920 .f32) (harg11 : arg11.IsWhole) (arg12 : Memref sig .tc .vmem S1920x1920 .f32) (harg12 : arg12.IsWhole) (arg13 : Memref sig .tc .vmem S1920x1920 .bf16) (harg13 : arg13.IsWhole) (arg14 : Memref sig .tc .vmem S1920x1024 .bf16) (harg14 : arg14.IsWhole) (arg15 : Memref sig .tc .vmem S1920x1024 .bf16) (harg15 : arg15.IsWhole) (arg16 : Memref sig .tc .vmem S1920x128 .f32) (harg16 : arg16.IsWhole) (arg17 : Memref sig .tc .vmem S1920x128 .f32) (harg17 : arg17.IsWhole) (arg18 : Memref sig .tc .vmem S1920x128 .f32) (harg18 : arg18.IsWhole)
    (x0 : Vec F S1x1 .f32) (x1 : Vec F S1x1920x1024 .fp8e4m3) (x2 : Vec F S1x1920x1024 .fp8e4m3) (x3 : Vec F S2x1920 .f32) (x4 : Vec F S2x1920 .f32) (f5 : BufTy.Contents (Elt F) arg6.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) (fs0 : BufTy.Contents (Elt F) arg12.view.ty) (fs1 : BufTy.Contents (Elt F) arg13.view.ty) (fs2 : BufTy.Contents (Elt F) arg14.view.ty) (fs3 : BufTy.Contents (Elt F) arg15.view.ty) (fs4 : BufTy.Contents (Elt F) arg16.view.ty) (fs5 : BufTy.Contents (Elt F) arg17.view.ty) (fs6 : BufTy.Contents (Elt F) arg18.view.ty) :
    Σ' (L5 : List (View.Piece (Elt F) S1x1920x1024 .bf16)) (L6 : List (View.Piece (Elt F) S1x1920x1024 .bf16)) (L7 : List (View.Piece (Elt F) S1x1 .f32)) (L8 : List (View.Piece (Elt F) S2x1920 .f32)) (L9 : List (View.Piece (Elt F) S2x1920 .f32)), { L10 : List (View.Piece (Elt F) S2x1920 .f32) // ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} fs0) ∗ (arg13.view.loc (c : Thread nD τ) ↦[arg13.view.set]{fullShare} fs1) ∗ (arg14.view.loc (c : Thread nD τ) ↦[arg14.view.set]{fullShare} fs2) ∗ (arg15.view.loc (c : Thread nD τ) ↦[arg15.view.set]{fullShare} fs3) ∗ (arg16.view.loc (c : Thread nD τ) ↦[arg16.view.set]{fullShare} fs4) ∗ (arg17.view.loc (c : Thread nD τ) ↦[arg17.view.set]{fullShare} fs5) ∗ (arg18.view.loc (c : Thread nD τ) ↦[arg18.view.set]{fullShare} fs6)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) f5 L5) ∗ (arg7.view.loc (c : Thread nD τ) ↦[arg7.view.set]{fullShare} arg7.view.writes (Elt F) f6 L6) ∗ (arg8.view.loc (c : Thread nD τ) ↦[arg8.view.set]{fullShare} arg8.view.writes (Elt F) f7 L7) ∗ (arg9.view.loc (c : Thread nD τ) ↦[arg9.view.set]{fullShare} arg9.view.writes (Elt F) f8 L8) ∗ (arg10.view.loc (c : Thread nD τ) ↦[arg10.view.set]{fullShare} arg10.view.writes (Elt F) f9 L9) ∗ (arg11.view.loc (c : Thread nD τ) ↦[arg11.view.set]{fullShare} arg11.view.writes (Elt F) f10 L10) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
        ⊢ wp frame (wpE (defs₀ (F := F)) Variants.none c none) E (cc0__clip_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0__clip_backward_eq_skeleton]; unfold cc0__clip_backward_skel
    simp only [k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, H5, H6, H7, H8, H9, H10, HS0, HS1, HS2, HS3, HS4, HS5, HS6, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [H6]; · iexact H6
    isplitl [H7]; · iexact H7
    isplitl [H8]; · iexact H8
    isplitl [H9]; · iexact H9
    isplitl [H10]; · iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Gen

end
-- ==== Proof.Body.lean ====
/- What one grid point of the kernel leaves in its outputs, as functions of what it reads. -/
module

public import proofs.«01_k».proof.Proof.Gen.KernelIdeal.Loops
public import proofs.«01_k».proof.Proof.PayRows
public import proofs.«01_k».proof.Proof.Loop1
public import proofs.«01_k».proof.Proof.Loop2
public import proofs.«01_k».proof.Proof.KernelRun
public import proofs.«01_k».proof.Proof.Stripes
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.KernelIdeal.Val

open Idealize.ShloMosaic Cert.KernelIdeal Cert.KernelIdeal.Gen

/-- The base-two logits of batch `b`, from the temperature's logarithm, the codes and the scales. -/
def mat (x0 : FVec Ideal S1x1 .f32) (x1 x2 : FVec Ideal S1x1920x1024 .fp8e4m3) (x3 x4 : FVec Ideal S2x1920 .f32) (b : Fin 2) : Spec.Mat :=
  Spec.logit (Ideal.exp (x0 (ix2 0 0))) (fun a d => x1 (ix3 0 a d)) (fun a d => x2 (ix3 0 a d)) (fun a => x3 (ix2 b a)) (fun a => x4 (ix2 b a))

/-- The first loop makes five trips, -/
theorem trips1 : k0_t1_loop.trips = 5 := by decide
/-- and so does the second. -/
theorem trips2 : k0_t2_loop.trips = 5 := by decide

variable (c : Dev nD) (i : grid0.Coords) (arg1 : Memref sig .tc .smem S1x1 .f32) (harg1 : arg1.IsWhole) (arg2 : Memref sig .tc .vmem S1x1920x1024 .fp8e4m3) (harg2 : arg2.IsWhole) (arg3 : Memref sig .tc .vmem S1x1920x1024 .fp8e4m3) (harg3 : arg3.IsWhole) (arg4 : Memref sig .tc .vmem S2x1920 .f32) (harg4 : arg4.IsWhole) (arg5 : Memref sig .tc .vmem S2x1920 .f32) (harg5 : arg5.IsWhole) (arg6 : Memref sig .tc .vmem S1x1920x1024 .bf16) (harg6 : arg6.IsWhole) (arg7 : Memref sig .tc .vmem S1x1920x1024 .bf16) (harg7 : arg7.IsWhole) (arg8 : Memref sig .tc .vmem S1x1 .f32) (harg8 : arg8.IsWhole) (arg9 : Memref sig .tc .vmem S2x1920 .f32) (harg9 : arg9.IsWhole) (arg10 : Memref sig .tc .vmem S2x1920 .f32) (harg10 : arg10.IsWhole) (arg11 : Memref sig .tc .vmem S2x1920 .f32) (harg11 : arg11.IsWhole) (arg12 : Memref sig .tc .vmem S1920x1920 .f32) (harg12 : arg12.IsWhole) (arg13 : Memref sig .tc .vmem S1920x1920 .bf16) (harg13 : arg13.IsWhole) (arg14 : Memref sig .tc .vmem S1920x1024 .bf16) (harg14 : arg14.IsWhole) (arg15 : Memref sig .tc .vmem S1920x1024 .bf16) (harg15 : arg15.IsWhole) (arg16 : Memref sig .tc .vmem S1920x128 .f32) (harg16 : arg16.IsWhole) (arg17 : Memref sig .tc .vmem S1920x128 .f32) (harg17 : arg17.IsWhole) (arg18 : Memref sig .tc .vmem S1920x128 .f32) (harg18 : arg18.IsWhole)
  (x0 : FVec Ideal S1x1 .f32) (x1 x2 : FVec Ideal S1x1920x1024 .fp8e4m3) (x3 x4 : FVec Ideal S2x1920 .f32)
  (f5 : BufTy.Contents (Elt Ideal) arg6.view.ty) (f6 : BufTy.Contents (Elt Ideal) arg7.view.ty) (f7 : BufTy.Contents (Elt Ideal) arg8.view.ty) (f8 : BufTy.Contents (Elt Ideal) arg9.view.ty) (f9 : BufTy.Contents (Elt Ideal) arg10.view.ty) (f10 : BufTy.Contents (Elt Ideal) arg11.view.ty)
  (fs0 : BufTy.Contents (Elt Ideal) arg12.view.ty) (fs1 : BufTy.Contents (Elt Ideal) arg13.view.ty) (fs2 : BufTy.Contents (Elt Ideal) arg14.view.ty) (fs3 : BufTy.Contents (Elt Ideal) arg15.view.ty) (fs4 : BufTy.Contents (Elt Ideal) arg16.view.ty) (fs5 : BufTy.Contents (Elt Ideal) arg17.view.ty) (fs6 : BufTy.Contents (Elt Ideal) arg18.view.ty)

/-- The temperature, in every lane. -/
theorem temperature (l : Fin 128) : kernelRun.sl.r_1 (F := Ideal) c arg1 harg1 x0 (ix2 0 l) = Ideal.exp (x0 (ix2 0 0)) := by
  refine (pay13_apply _ l).trans (congrArg Ideal.exp ?_)
  refine (congrFun (harg1.read_unread (Val := Elt Ideal) x0) _).trans ?_
  refine congrArg x0 (funext fun a => Fin.ext ?_)
  fin_cases a <;> rfl

/-- The image scales of the point's batch element, -/
theorem image_scale (j : Fin 1920) : kernelRun.sl.r_2 (F := Ideal) c i arg4 harg4 x3 (ix2 0 j) = x3 (ix2 (i 0) j) := by
  refine (congrFun (harg4.read_unread (Val := Elt Ideal) x3) _).trans ?_
  refine congrArg x3 (funext fun a => Fin.ext ?_)
  have := k0_off1_eq i
  fin_cases a <;> simp [this]

/-- and its text scales. -/
theorem text_scale (j : Fin 1920) : kernelRun.sl.r_3 (F := Ideal) c i arg5 harg5 x4 (ix2 0 j) = x4 (ix2 (i 0) j) := by
  refine (congrFun (harg5.read_unread (Val := Elt Ideal) x4) _).trans ?_
  refine congrArg x4 (funext fun a => Fin.ext ?_)
  have := k0_off1_eq i
  fin_cases a <;> simp [this]

/-- The scratch of row factors: an image scale times the temperature, in base two. -/
theorem row_factor (a : Fin 1920) (l : Fin 128) :
    arg16.view.read (Elt Ideal) (arg16.view.writes (Elt Ideal) arg16.view.junk (kernelRun.sl.HS4_1 (F := Ideal) c i arg1 harg1 arg4 harg4 x0 x3)) (ix2 a l)
      = (x3 (ix2 (i 0) a) * (Ideal.exp (x0 (ix2 0 0)) * Spec.ke) : EReal) := by
  unfold kernelRun.sl.HS4_1
  refine (View.read_writes_cons_unit_of_mem arg16.view _ _ _ _ (ix2 a l) (ix2 a l) rfl ?_).trans ?_
  · intro y; fin_cases y <;> exact (Nat.zero_add _).symm
  · refine (pay27_apply (kernelRun.sl.r_1 (F := Ideal) c arg1 harg1 x0) (kernelRun.sl.r_2 (F := Ideal) c i arg4 harg4 x3) a l).trans ?_
    rw [temperature, image_scale]

/-- The dequantised text rows, -/
theorem text_row (a : Fin 1920) (d : Fin 1024) :
    arg15.view.read (Elt Ideal) (arg15.view.writes (Elt Ideal) arg15.view.junk (kernelRun.sl.HS3_1 (F := Ideal) c i arg3 harg3 arg5 harg5 x2 x4)) (ix2 a d)
      = (x2 (ix3 0 a d) * x4 (ix2 (i 0) a) : EReal) := by
  unfold kernelRun.sl.HS3_1
  refine (View.read_writes_cons_unit_of_mem arg15.view _ _ _ _ (ix2 a d) (ix2 a d) rfl ?_).trans ?_
  · intro y; fin_cases y <;> exact (Nat.zero_add _).symm
  · refine (pay34_apply (kernelRun.sl.r_3 (F := Ideal) c i arg5 harg5 x4) _ a d).trans ?_
    rw [text_scale]
    refine congrArg (fun y : EReal => y * x4 (ix2 (i 0) a)) ?_
    refine (congrFun (harg3.read_unread (Val := Elt Ideal) x2) _).trans ?_
    refine congrArg x2 (funext fun y => Fin.ext ?_)
    fin_cases y <;> simp

/-- and the dequantised image rows. -/
theorem image_row (a : Fin 1920) (d : Fin 1024) :
    (kernelRun.sl.v279 (F := Ideal) c i arg2 harg2 arg4 harg4 arg14 x1 x3 : FVec Ideal S1920x1024 .bf16) (ix2 a d) = (x1 (ix3 0 a d) * x3 (ix2 (i 0) a) : EReal) := by
  unfold kernelRun.sl.v279 kernelRun.sl.HS2_1 View.readCov
  refine (View.read_writes_cons_unit_of_mem arg14.view _ _ _ _ _ (ix2 a d) rfl ?_).trans ?_
  · intro y; fin_cases y <;> simp
  · refine (pay28_apply (kernelRun.sl.r_2 (F := Ideal) c i arg4 harg4 x3) _ a d).trans ?_
    rw [image_scale]
    refine congrArg (fun y : EReal => y * x3 (ix2 (i 0) a)) ?_
    refine (congrFun (harg2.read_unread (Val := Elt Ideal) x1) _).trans ?_
    refine congrArg x1 (funext fun y => Fin.ext ?_)
    fin_cases y <;> simp

/-- The first loop's end at a grid point. -/
def firstLoop : (FVec Ideal S1x1920 .f32 × FVec Ideal S1x1920 .f32) × List (View.Piece (Elt Ideal) S1920x1920 .f32) × List (View.Piece (Elt Ideal) S1920x128 .f32) :=
  (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 0)) (kernelRun.sl.r_3 c i arg5 harg5 x4) k0_pay35 kernelRun.sl.cst_16 (harg2.unread x1) (harg3.unread x2) (arg16.view.writes (Elt Ideal) arg16.view.junk (kernelRun.sl.HS4_1 c i arg1 harg1 arg4 harg4 x0 x3)) (k0_pay35, k0_pay36 kernelRun.sl.cst_16) k0_t1_loop.trips)

/-- After the first loop all rows' logits and log-sum-exps are in place, and the column maxima and sums are those of all rows. -/
theorem firstLoop_after : After1 arg12 arg17 (mat x0 x1 x2 x3 x4 (i 0)) 5 (firstLoop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) := by
  have h := after1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 0)) (kernelRun.sl.r_3 (F := Ideal) c i arg5 harg5 x4) k0_pay35 kernelRun.sl.cst_16
    (harg2.unread x1) (harg3.unread x2) (arg16.view.writes (Elt Ideal) arg16.view.junk (kernelRun.sl.HS4_1 (F := Ideal) c i arg1 harg1 arg4 harg4 x0 x3))
    (mat x0 x1 x2 x3 x4 (i 0)) ?_ kernelRun.sl.cst_16 ?_ k0_t1_loop.trips le_rfl
  · rw [trips1] at h
    unfold firstLoop
    rw [trips1]
    exact h
  · intro a j
    rw [row_factor, text_scale, harg2.read_unread, harg3.read_unread]
    rfl
  · show (FloatOps.ofBits .f32 0#32 : Ideal .f32) = (0 : EReal)
    exact Ideal.ofBits_zero .f32

/-- The column log-sum-exps the first loop's maximum and sum give. -/
theorem column_lse (j : Fin 1920) : ((firstLoop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).1.1 (ix2 0 j) + Ideal.log ((firstLoop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).1.2 (ix2 0 j)) * Spec.ke : EReal) = Spec.lse2 fun a => (mat x0 x1 x2 x3 x4 (i 0)) a j := by
  have h := firstLoop_after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4
  rw [h.top, h.sum, rows_five]
  rfl

/-- The log-sum-exps of the rows, in base two, as the second half reads them. -/
theorem row_lse (a : Fin 1920) (l : Fin 128) : kernelRun.sl.v168 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5 (ix2 a l) = Spec.lse2 ((mat x0 x1 x2 x3 x4 (i 0)) a) := by
  refine Eq.trans ?_ ((firstLoop_after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).lse fs5 a l (by omega))
  refine congrArg (arg17.view.read (Elt Ideal) _) (funext fun y => Fin.ext ?_)
  fin_cases y <;> simp

/-- The second loop's end at a grid point. -/
def secondLoop : FVec Ideal S1x1 .f32 × List (View.Piece (Elt Ideal) S1x1920x1024 .bf16) × List (View.Piece (Elt Ideal) S1920x1920 .bf16) × List (View.Piece (Elt Ideal) S1920x128 .f32) :=
  (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 0)) (kernelRun.sl.r_1 c arg1 harg1 x0) (kernelRun.sl.r_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) (kernelRun.sl.v168 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_29 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_30 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_31 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_32 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_33 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_34 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (arg12.view.writes (Elt Ideal) fs0 (firstLoop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.1) (arg15.view.writes (Elt Ideal) arg15.view.junk (kernelRun.sl.HS3_1 c i arg3 harg3 arg5 harg5 x2 x4)) (arg17.view.writes (Elt Ideal) fs5 (firstLoop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2) k0_pay54 k0_t2_loop.trips)

/-- After the second loop all rows' logit gradients, image gradients and row sums are in place, and the total is that of all rows. -/
theorem secondLoop_after : After2 arg6 arg13 arg18 (mat x0 x1 x2 x3 x4 (i 0)) (fun j d => (x2 (ix3 0 j d) * x4 (ix2 (i 0) j) : EReal)) (Ideal.exp (x0 (ix2 0 0))) 5 (secondLoop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs0 fs5) := by
  have h1 := firstLoop_after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4
  have h := after2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 0)) (kernelRun.sl.r_1 (F := Ideal) c arg1 harg1 x0) (kernelRun.sl.r_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4) (kernelRun.sl.v168 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_29 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_30 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_31 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_32 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_33 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) (kernelRun.sl.r_34 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5)
    (arg12.view.writes (Elt Ideal) fs0 (firstLoop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.1) (arg15.view.writes (Elt Ideal) arg15.view.junk (kernelRun.sl.HS3_1 (F := Ideal) c i arg3 harg3 arg5 harg5 x2 x4)) (arg17.view.writes (Elt Ideal) fs5 (firstLoop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4).2.2)
    (mat x0 x1 x2 x3 x4 (i 0)) (fun a j => h1.logits fs0 a j (by omega)) (fun a => h1.lse fs5 a 0 (by omega)) ?_ _ (text_row c i arg3 harg3 arg5 harg5 arg15 x2 x4) k0_t2_loop.trips le_rfl
  · rw [temperature, trips2] at h
    unfold secondLoop
    rw [trips2]
    exact h
  · intro j
    exact (pay38_apply _ _ j).trans (column_lse c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 j)

/-- The image gradient block. -/
theorem img_read (a : Fin 1920) (d : Fin 1024) :
    arg6.view.read (Elt Ideal) (arg6.view.writes (Elt Ideal) f5 (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f5 f6 f7 f8 f9 f10 fs0 fs1 fs2 fs3 fs4 fs5 fs6).1) (ix3 0 a d)
      = ((∑ j, Spec.grad (mat x0 x1 x2 x3 x4 (i 0)) a j * (x2 (ix3 0 j d) * x4 (ix2 (i 0) j))) * Ideal.exp (x0 (ix2 0 0)) : EReal) := by
  unfold kernelRun
  dsimp only
  exact (secondLoop_after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs0 fs5).img f5 a d (by omega)

/-- The text gradient block. -/
theorem txt_read (j : Fin 1920) (d : Fin 1024) :
    arg7.view.read (Elt Ideal) (arg7.view.writes (Elt Ideal) f6 (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f5 f6 f7 f8 f9 f10 fs0 fs1 fs2 fs3 fs4 fs5 fs6).2.1) (ix3 0 j d)
      = ((∑ a, Spec.grad (mat x0 x1 x2 x3 x4 (i 0)) a j * (x1 (ix3 0 a d) * x3 (ix2 (i 0) a))) * Ideal.exp (x0 (ix2 0 0)) : EReal) := by
  have hu : ∀ a : Fin 1920, _ := fun a => image_row c i arg2 harg2 arg4 harg4 arg14 x1 x3 a d
  have ht := temperature c arg1 harg1 x0 0
  have hg : ∀ (o : ℕ) (inb : ∀ a, (![0, o] : Fin 2 → ℕ) a + S1920x384.size a ≤ S1920x1920.size a) (a : Fin 1920) (r : Fin 384), o + r.val = j.val →
      (View.readAt (Elt Ideal) arg13.view (Rect.unit (s := S1920x1920) ![0, o] S1920x384.size inb).toLoadRect (arg13.view.writes (Elt Ideal) fs1 (secondLoop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs0 fs5).2.2.1) : FVec Ideal S1920x384 .bf16) (ix2 a r) = Spec.grad (mat x0 x1 x2 x3 x4 (i 0)) a j := by
    intro o inb a r h
    refine Eq.trans ?_ ((secondLoop_after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs0 fs5).grad fs1 a j (by omega))
    refine congrArg (arg13.view.read (Elt Ideal) _) (funext fun y => Fin.ext ?_)
    fin_cases y <;> simp [h]
  unfold kernelRun
  dsimp only
  by_cases h1536 : 1536 ≤ j.val
  · refine (View.read_writes_cons_unit_of_mem arg7.view f6 _ _ _ (ix3 0 j d) (ix3 0 (⟨j.val - 1536, by omega⟩ : Fin 384) d) rfl ?_).trans ?_
    · intro y
      fin_cases y
      · rfl
      · show j.val = 1536 + (j.val - 1536); omega
      · exact (Nat.zero_add _).symm
    · refine (pay1_apply _ _ _ _ d).trans (congrArg₂ (fun y z : EReal => y * z) (Finset.sum_congr rfl fun a _ => congrArg₂ (fun y z : EReal => y * z) (hg 1536 _ a _ ?_) (hu a)) ht)
      show 1536 + (j.val - 1536) = j.val
      omega
  refine (View.read_writes_cons_unit_of_not_mem arg7.view f6 _ _ _ (ix3 0 j d) rfl 1 (Or.inl (Nat.lt_of_not_le h1536))).trans ?_
  by_cases h1152 : 1152 ≤ j.val
  · refine (View.read_writes_cons_unit_of_mem arg7.view f6 _ _ _ (ix3 0 j d) (ix3 0 (⟨j.val - 1152, by omega⟩ : Fin 384) d) rfl ?_).trans ?_
    · intro y
      fin_cases y
      · rfl
      · show j.val = 1152 + (j.val - 1152); omega
      · exact (Nat.zero_add _).symm
    · refine (pay75_apply _ _ _ _ d).trans (congrArg₂ (fun y z : EReal => y * z) (Finset.sum_congr rfl fun a _ => congrArg₂ (fun y z : EReal => y * z) (hg 1152 _ a _ ?_) (hu a)) ht)
      show 1152 + (j.val - 1152) = j.val
      omega
  refine (View.read_writes_cons_unit_of_not_mem arg7.view f6 _ _ _ (ix3 0 j d) rfl 1 (Or.inl (Nat.lt_of_not_le h1152))).trans ?_
  by_cases h768 : 768 ≤ j.val
  · refine (View.read_writes_cons_unit_of_mem arg7.view f6 _ _ _ (ix3 0 j d) (ix3 0 (⟨j.val - 768, by omega⟩ : Fin 384) d) rfl ?_).trans ?_
    · intro y
      fin_cases y
      · rfl
      · show j.val = 768 + (j.val - 768); omega
      · exact (Nat.zero_add _).symm
    · refine (pay74_apply _ _ _ _ d).trans (congrArg₂ (fun y z : EReal => y * z) (Finset.sum_congr rfl fun a _ => congrArg₂ (fun y z : EReal => y * z) (hg 768 _ a _ ?_) (hu a)) ht)
      show 768 + (j.val - 768) = j.val
      omega
  refine (View.read_writes_cons_unit_of_not_mem arg7.view f6 _ _ _ (ix3 0 j d) rfl 1 (Or.inl (Nat.lt_of_not_le h768))).trans ?_
  by_cases h384 : 384 ≤ j.val
  · refine (View.read_writes_cons_unit_of_mem arg7.view f6 _ _ _ (ix3 0 j d) (ix3 0 (⟨j.val - 384, by omega⟩ : Fin 384) d) rfl ?_).trans ?_
    · intro y
      fin_cases y
      · rfl
      · show j.val = 384 + (j.val - 384); omega
      · exact (Nat.zero_add _).symm
    · refine (pay73_apply _ _ _ _ d).trans (congrArg₂ (fun y z : EReal => y * z) (Finset.sum_congr rfl fun a _ => congrArg₂ (fun y z : EReal => y * z) (hg 384 _ a _ ?_) (hu a)) ht)
      show 384 + (j.val - 384) = j.val
      omega
  refine (View.read_writes_cons_unit_of_not_mem arg7.view f6 _ _ _ (ix3 0 j d) rfl 1 (Or.inl (Nat.lt_of_not_le h384))).trans ?_
  refine (View.read_writes_cons_unit_of_mem arg7.view f6 _ _ _ (ix3 0 j d) (ix3 0 (⟨j.val - 0, by omega⟩ : Fin 384) d) rfl ?_).trans ?_
  · intro y
    fin_cases y
    · rfl
    · show j.val = 0 + (j.val - 0); omega
    · exact (Nat.zero_add _).symm
  · refine (pay71_apply _ _ _ _ d).trans (congrArg₂ (fun y z : EReal => y * z) (Finset.sum_congr rfl fun a _ => congrArg₂ (fun y z : EReal => y * z) (hg 0 _ a _ ?_) (hu a)) ht)
    show 0 + (j.val - 0) = j.val
    omega

/-- The running total. -/
theorem total_read :
    arg8.view.read (Elt Ideal) (arg8.view.writes (Elt Ideal) f7 (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f5 f6 f7 f8 f9 f10 fs0 fs1 fs2 fs3 fs4 fs5 fs6).2.2.1) (ix2 0 0)
      = ((if (i 0).val = 0 then (0 : EReal) else arg8.view.read (Elt Ideal) f7 (ix2 0 0)) + ∑ a, Spec.rowSum (mat x0 x1 x2 x3 x4 (i 0)) a : EReal) := by
  unfold kernelRun
  dsimp only
  refine (View.read_writes_cons_unit_of_mem arg8.view f7 _ _ _ (ix2 0 0) (ix2 0 0) rfl ?_).trans ?_
  · intro y; fin_cases y <;> rfl
  · refine (pay70_apply _ _ _).trans ?_
    refine congrArg₂ (fun y z : EReal => y + z) ?_ ?_
    · have hi : (i 0).val < 2 := (i 0).isLt
      have he : (BitVec.ofNat 32 (i 0).val = 0#32) ↔ (i 0).val = 0 := by
        rw [← BitVec.toNat_inj]; simp; omega
      simp only [he]
      refine ite_congr rfl (fun _ => rfl) fun _ => ?_
      refine congrArg (arg8.view.read (Elt Ideal) f7) (funext fun y => Fin.ext ?_)
      fin_cases y <;> rfl
    · refine (secondLoop_after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs0 fs5).total.trans ?_
      rw [rows_five]

/-- The row sums. -/
theorem drows_read (b : Fin 2) (a : Fin 1920) :
    arg9.view.read (Elt Ideal) (arg9.view.writes (Elt Ideal) f8 (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f5 f6 f7 f8 f9 f10 fs0 fs1 fs2 fs3 fs4 fs5 fs6).2.2.2.1) (ix2 b a)
      = if b.val = (i 0).val then (Spec.rowSum (mat x0 x1 x2 x3 x4 (i 0)) a : EReal) else arg9.view.read (Elt Ideal) f8 (ix2 b a) := by
  unfold kernelRun
  dsimp only
  by_cases hb : b.val = (i 0).val
  · rw [if_pos hb]
    refine (View.read_writes_cons_unit_of_mem arg9.view f8 _ _ _ (ix2 b a) (ix2 0 a) (k0_off1_eq i) ?_).trans ?_
    · intro y
      fin_cases y
      · simp [hb]
      · simp
    · refine (pay69_apply (kernelRun.sl.v222 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs0 fs5 fs6) a).trans ?_
      refine Eq.trans ?_ ((secondLoop_after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs0 fs5).rowSum fs6 a 0 (by omega))
      refine congrArg (arg18.view.read (Elt Ideal) _) (funext fun y => Fin.ext ?_)
      fin_cases y <;> simp
  · rw [if_neg hb]
    exact View.read_writes_cons_unit_of_not_mem arg9.view f8 _ _ _ (ix2 b a) (k0_off1_eq i) 0
      ((Nat.lt_or_gt_of_ne hb).imp id fun h => Nat.succ_le_of_lt h)

/-- The row log-sum-exps. -/
theorem row_read (b : Fin 2) (a : Fin 1920) :
    arg10.view.read (Elt Ideal) (arg10.view.writes (Elt Ideal) f9 (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f5 f6 f7 f8 f9 f10 fs0 fs1 fs2 fs3 fs4 fs5 fs6).2.2.2.2.1) (ix2 b a)
      = if b.val = (i 0).val then (Spec.lse2 ((mat x0 x1 x2 x3 x4 (i 0)) a) * Spec.l2 : EReal) else arg10.view.read (Elt Ideal) f9 (ix2 b a) := by
  unfold kernelRun
  dsimp only
  by_cases hb : b.val = (i 0).val
  · rw [if_pos hb]
    refine (View.read_writes_cons_unit_of_mem arg10.view f9 _ _ _ (ix2 b a) (ix2 0 a) (k0_off1_eq i) ?_).trans ?_
    · intro y
      fin_cases y
      · simp [hb]
      · simp
    · refine (pay53_apply (kernelRun.sl.v168 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 fs5) a).trans ?_
      rw [row_lse]
  · rw [if_neg hb]
    exact View.read_writes_cons_unit_of_not_mem arg10.view f9 _ _ _ (ix2 b a) (k0_off1_eq i) 0
      ((Nat.lt_or_gt_of_ne hb).imp id fun h => Nat.succ_le_of_lt h)

/-- The column log-sum-exps. -/
theorem col_read (b : Fin 2) (a : Fin 1920) :
    arg11.view.read (Elt Ideal) (arg11.view.writes (Elt Ideal) f10 (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f5 f6 f7 f8 f9 f10 fs0 fs1 fs2 fs3 fs4 fs5 fs6).2.2.2.2.2.1) (ix2 b a)
      = if b.val = (i 0).val then ((Spec.lse2 fun j => (mat x0 x1 x2 x3 x4 (i 0)) j a) * Spec.l2 : EReal) else arg11.view.read (Elt Ideal) f10 (ix2 b a) := by
  unfold kernelRun
  dsimp only
  by_cases hb : b.val = (i 0).val
  · rw [if_pos hb]
    refine (View.read_writes_cons_unit_of_mem arg11.view f10 _ _ _ (ix2 b a) (ix2 0 a) (k0_off1_eq i) ?_).trans ?_
    · intro y
      fin_cases y
      · simp [hb]
      · simp
    · refine (pay39_apply _ _ a).trans ?_
      exact congrArg (fun y : EReal => y * Spec.l2) (column_lse c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 a)
  · rw [if_neg hb]
    exact View.read_writes_cons_unit_of_not_mem arg11.view f10 _ _ _ (ix2 b a) (k0_off1_eq i) 0
      ((Nat.lt_or_gt_of_ne hb).imp id fun h => Nat.succ_le_of_lt h)

end Cert.KernelIdeal.Val

end
-- ==== Proof.Run.lean ====
/- The kernel's run: what every grid point leaves in the outputs, and the arrays at the end. -/
module

public import proofs.«01_k».proof.Proof.Body
public import proofs.«01_k».proof.Proof.KernelRun
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.DatRel
public import Idealize.ShloMosaic.Lib.Pipeline.ArrRel
public import Idealize.ShloMosaic.Lib.Pipeline.Value
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The blocks a point reads and the memrefs it runs on -/

/-- The block of the scale argument at a point, -/
abbrev X0 (c : Dev nD) (t : Fin cfg0.N) : FVec Ideal S1x1 .f32 := iblk m c 0 t
/-- of the image codes, -/
abbrev X1 (c : Dev nD) (t : Fin cfg0.N) : FVec Ideal S1x1920x1024 .fp8e4m3 := iblk m c 1 t
/-- of the text codes, -/
abbrev X2 (c : Dev nD) (t : Fin cfg0.N) : FVec Ideal S1x1920x1024 .fp8e4m3 := iblk m c 2 t
/-- of the image scales, -/
abbrev X3 (c : Dev nD) (t : Fin cfg0.N) : FVec Ideal S2x1920 .f32 := iblk m c 3 t
/-- and of the text scales. -/
abbrev X4 (c : Dev nD) (t : Fin cfg0.N) : FVec Ideal S2x1920 .f32 := iblk m c 4 t
/-- The staging buffer of window 0 at a point. -/
abbrev ms0_0 (t : Fin cfg0.N) : Memref sig .tc .smem S1x1 .f32 := win0_0.stage (cfg0.slots t 0)
/-- It is a whole buffer. -/
abbrev hs0_0 (t : Fin cfg0.N) : (ms0_0 t).IsWhole := hstage0_0 ((cfg0.slots t 0).cast nbuf0_0)
/-- The staging buffer of window 1 at a point. -/
abbrev ms0_1 (t : Fin cfg0.N) : Memref sig .tc .vmem S1x1920x1024 .fp8e4m3 := win0_1.stage (cfg0.slots t 1)
/-- It is a whole buffer. -/
abbrev hs0_1 (t : Fin cfg0.N) : (ms0_1 t).IsWhole := hstage0_1 ((cfg0.slots t 1).cast nbuf0_1)
/-- The staging buffer of window 2 at a point. -/
abbrev ms0_2 (t : Fin cfg0.N) : Memref sig .tc .vmem S1x1920x1024 .fp8e4m3 := win0_2.stage (cfg0.slots t 2)
/-- It is a whole buffer. -/
abbrev hs0_2 (t : Fin cfg0.N) : (ms0_2 t).IsWhole := hstage0_2 ((cfg0.slots t 2).cast nbuf0_2)
/-- The staging buffer of window 3 at a point. -/
abbrev ms0_3 (t : Fin cfg0.N) : Memref sig .tc .vmem S2x1920 .f32 := win0_3.stage (cfg0.slots t 3)
/-- It is a whole buffer. -/
abbrev hs0_3 (t : Fin cfg0.N) : (ms0_3 t).IsWhole := hstage0_3 ((cfg0.slots t 3).cast nbuf0_3)
/-- The staging buffer of window 4 at a point. -/
abbrev ms0_4 (t : Fin cfg0.N) : Memref sig .tc .vmem S2x1920 .f32 := win0_4.stage (cfg0.slots t 4)
/-- It is a whole buffer. -/
abbrev hs0_4 (t : Fin cfg0.N) : (ms0_4 t).IsWhole := hstage0_4 ((cfg0.slots t 4).cast nbuf0_4)
/-- The staging buffer of window 5 at a point. -/
abbrev ms0_5 (t : Fin cfg0.N) : Memref sig .tc .vmem S1x1920x1024 .bf16 := win0_5.stage (cfg0.slots t 5)
/-- It is a whole buffer. -/
abbrev hs0_5 (t : Fin cfg0.N) : (ms0_5 t).IsWhole := hstage0_5 ((cfg0.slots t 5).cast nbuf0_5)
/-- The staging buffer of window 6 at a point. -/
abbrev ms0_6 (t : Fin cfg0.N) : Memref sig .tc .vmem S1x1920x1024 .bf16 := win0_6.stage (cfg0.slots t 6)
/-- It is a whole buffer. -/
abbrev hs0_6 (t : Fin cfg0.N) : (ms0_6 t).IsWhole := hstage0_6 ((cfg0.slots t 6).cast nbuf0_6)
/-- The staging buffer of window 7 at a point. -/
abbrev ms0_7 (t : Fin cfg0.N) : Memref sig .tc .vmem S1x1 .f32 := win0_7.stage (cfg0.slots t 7)
/-- It is a whole buffer. -/
abbrev hs0_7 (t : Fin cfg0.N) : (ms0_7 t).IsWhole := hstage0_7 ((cfg0.slots t 7).cast nbuf0_7)
/-- The staging buffer of window 8 at a point. -/
abbrev ms0_8 (t : Fin cfg0.N) : Memref sig .tc .vmem S2x1920 .f32 := win0_8.stage (cfg0.slots t 8)
/-- It is a whole buffer. -/
abbrev hs0_8 (t : Fin cfg0.N) : (ms0_8 t).IsWhole := hstage0_8 ((cfg0.slots t 8).cast nbuf0_8)
/-- The staging buffer of window 9 at a point. -/
abbrev ms0_9 (t : Fin cfg0.N) : Memref sig .tc .vmem S2x1920 .f32 := win0_9.stage (cfg0.slots t 9)
/-- It is a whole buffer. -/
abbrev hs0_9 (t : Fin cfg0.N) : (ms0_9 t).IsWhole := hstage0_9 ((cfg0.slots t 9).cast nbuf0_9)
/-- The staging buffer of window 10 at a point. -/
abbrev ms0_10 (t : Fin cfg0.N) : Memref sig .tc .vmem S2x1920 .f32 := win0_10.stage (cfg0.slots t 10)
/-- It is a whole buffer. -/
abbrev hs0_10 (t : Fin cfg0.N) : (ms0_10 t).IsWhole := hstage0_10 ((cfg0.slots t 10).cast nbuf0_10)
/-- Scratch buffer 0. -/
abbrev scM0_0 : Memref sig .tc .vmem S1920x1920 .f32 := Memref.whole cc0_scratch0
/-- Scratch buffer 1. -/
abbrev scM0_1 : Memref sig .tc .vmem S1920x1920 .bf16 := Memref.whole cc0_scratch1
/-- Scratch buffer 2. -/
abbrev scM0_2 : Memref sig .tc .vmem S1920x1024 .bf16 := Memref.whole cc0_scratch2
/-- Scratch buffer 3. -/
abbrev scM0_3 : Memref sig .tc .vmem S1920x1024 .bf16 := Memref.whole cc0_scratch3
/-- Scratch buffer 4. -/
abbrev scM0_4 : Memref sig .tc .vmem S1920x128 .f32 := Memref.whole cc0_scratch4
/-- Scratch buffer 5. -/
abbrev scM0_5 : Memref sig .tc .vmem S1920x128 .f32 := Memref.whole cc0_scratch5
/-- Scratch buffer 6. -/
abbrev scM0_6 : Memref sig .tc .vmem S1920x128 .f32 := Memref.whole cc0_scratch6

/-- The invariant between grid points: the scratch memrefs at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-! ## What the outputs hold after each point -/

/-- The batch element of grid point `t`. -/
abbrev bat (t : Fin cfg0.N) : Fin 2 := grid0.coords t 0

/-- A point's batch element has the point's number. -/
theorem bat_val : ∀ t : Fin cfg0.N, (bat t).val = t.val :=
  (by decide +kernel : ∀ t : Fin grid0.N, (grid0.coords t 0).val = t.val)

/-- The base-two logits of point `t`'s batch element. -/
def M (c : Dev nD) (t : Fin cfg0.N) : Spec.Mat := mat (X0 m c t) (X1 m c t) (X2 m c t) (X3 m c t) (X4 m c t) (bat t)

/-- The image gradient of point `t`'s batch element. -/
def img (c : Dev nD) (t : Fin cfg0.N) (a : Fin 1920) (d : Fin 1024) : EReal :=
  (∑ j, Spec.grad (M m c t) a j * (X2 m c t (ix3 0 j d) * X4 m c t (ix2 (bat t) j))) * Ideal.exp (X0 m c t (ix2 0 0))

/-- The text gradient of point `t`'s batch element. -/
def txt (c : Dev nD) (t : Fin cfg0.N) (j : Fin 1920) (d : Fin 1024) : EReal :=
  (∑ a, Spec.grad (M m c t) a j * (X1 m c t (ix3 0 a d) * X3 m c t (ix2 (bat t) a))) * Ideal.exp (X0 m c t (ix2 0 0))

/-- The sum of all gradient–logit products of point `t`'s batch element. -/
def tot (c : Dev nD) (t : Fin cfg0.N) : EReal := ∑ a, Spec.rowSum (M m c t) a

/-- A block of image gradients is the point's. -/
def P5 (c : Dev nD) (t : Fin cfg0.N) (X : FVec Ideal S1x1920x1024 .bf16) : Prop := ∀ a d, X (ix3 0 a d) = img m c t a d
/-- A block of text gradients is the point's. -/
def P6 (c : Dev nD) (t : Fin cfg0.N) (X : FVec Ideal S1x1920x1024 .bf16) : Prop := ∀ a d, X (ix3 0 a d) = txt m c t a d
/-- The scalar is the total so far. -/
def P7 (c : Dev nD) (t : Fin cfg0.N) (X : FVec Ideal S1x1 .f32) : Prop :=
  X (ix2 0 0) = if t.val = 0 then tot m c t else tot m c t0_0 + tot m c t
/-- Rows `0 … t` of a per-row output hold `g`. -/
def Prow (g : Fin cfg0.N → Fin 1920 → EReal) (t : Fin cfg0.N) (X : FVec Ideal S2x1920 .f32) : Prop :=
  ∀ s : Fin cfg0.N, s.val ≤ t.val → ∀ a, X (ix2 (bat s) a) = g s a
/-- The row sums, -/
def g8 (c : Dev nD) (t : Fin cfg0.N) (a : Fin 1920) : EReal := Spec.rowSum (M m c t) a
/-- the rows' log-sum-exps, -/
def g9 (c : Dev nD) (t : Fin cfg0.N) (a : Fin 1920) : EReal := Spec.lse2 (M m c t a) * Spec.l2
/-- and the columns'. -/
def g10 (c : Dev nD) (t : Fin cfg0.N) (a : Fin 1920) : EReal := Spec.lse2 (fun j => M m c t j a) * Spec.l2

/-- What the body leaves in each output window at point `t`. -/
def Rl (c : Dev nD) (w : Fin cfg0.W) (t : Fin cfg0.N) (X : (cfg0.win w).block.Idx → Elt Ideal (cfg0.win w).elt) : Prop :=
  match w, X with
  | ⟨5, _⟩, X => P5 m c t X
  | ⟨6, _⟩, X => P6 m c t X
  | ⟨7, _⟩, X => P7 m c t X
  | ⟨8, _⟩, X => Prow (g8 m c) t X
  | ⟨9, _⟩, X => Prow (g9 m c) t X
  | ⟨10, _⟩, X => Prow (g10 m c) t X
  | _, _ => True

/-- The output windows. -/
def marked : Fin 11 → Bool := fun w => w.val == 5 || w.val == 6 || w.val == 7 || w.val == 8 || w.val == 9 || w.val == 10

/-- The proof data: the inputs' buffers keep their blocks; the outputs are held to `Rl`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The arrays begin as the launch finds them. -/
theorem A_eq (c : Dev nD) (w : Fin cfg0.W) : (dats m 0 c).A w = V m c (Pipeline.arrRef spec0 w) := by
  dsimp only [dats]

/-- After the body input 0 holds its block still. -/
theorem after0_0 (c : Dev nD) (t : Fin cfg0.N) : (dats m 0 c).after 0 t = iblk m c 0 t := by dsimp only [dats]
/-- After the body input 1 holds its block still. -/
theorem after0_1 (c : Dev nD) (t : Fin cfg0.N) : (dats m 0 c).after 1 t = iblk m c 1 t := by dsimp only [dats]
/-- After the body input 2 holds its block still. -/
theorem after0_2 (c : Dev nD) (t : Fin cfg0.N) : (dats m 0 c).after 2 t = iblk m c 2 t := by dsimp only [dats]
/-- After the body input 3 holds its block still. -/
theorem after0_3 (c : Dev nD) (t : Fin cfg0.N) : (dats m 0 c).after 3 t = iblk m c 3 t := by dsimp only [dats]
/-- After the body input 4 holds its block still. -/
theorem after0_4 (c : Dev nD) (t : Fin cfg0.N) : (dats m 0 c).after 4 t = iblk m c 4 t := by dsimp only [dats]
/-- Before the body input 0 holds its block. -/
theorem before0_0 (c : Dev nD) (t : Fin cfg0.N) (d) : (dats m 0 c).before 0 t d = iblk m c 0 t :=
  before0_0_of m (dats m 0 c) (A_eq m c 0) (after0_0 m c) t d
/-- Before the body input 1 holds its block. -/
theorem before0_1 (c : Dev nD) (t : Fin cfg0.N) (d) : (dats m 0 c).before 1 t d = iblk m c 1 t :=
  before0_1_of m (dats m 0 c) (A_eq m c 1) (after0_1 m c) t d
/-- Before the body input 2 holds its block. -/
theorem before0_2 (c : Dev nD) (t : Fin cfg0.N) (d) : (dats m 0 c).before 2 t d = iblk m c 2 t :=
  before0_2_of m (dats m 0 c) (A_eq m c 2) (after0_2 m c) t d
/-- Before the body input 3 holds its block. -/
theorem before0_3 (c : Dev nD) (t : Fin cfg0.N) (d) : (dats m 0 c).before 3 t d = iblk m c 3 t :=
  before0_3_of m (dats m 0 c) (A_eq m c 3) (after0_3 m c) t d
/-- Before the body input 4 holds its block. -/
theorem before0_4 (c : Dev nD) (t : Fin cfg0.N) (d) : (dats m 0 c).before 4 t d = iblk m c 4 t :=
  before0_4_of m (dats m 0 c) (A_eq m c 4) (after0_4 m c) t d

/-- The proof data with the outputs held to `Rl`. -/
abbrev rdat (c : Dev nD) : Pipeline.RDat τ (Elt Ideal) Unit ℕ (UR sig nD τ) ℕ cfg0 c := (dats m 0 c).toRRel marked (Rl m c)

/-- After the first point an output window that is written back only at the end still holds what the previous point left. -/
theorem carried {c : Dev nD} {w : Fin cfg0.W} (hw : marked w = true) (hin : ∀ t, (cfg0.win w).fetch t = false)
    (hfl : ∀ t, (cfg0.win w).flush t = true ↔ t.val % 2 = 1) {t : Fin cfg0.N} (ht : t.val ≠ 0) {Y}
    (h : (rdat m c).Finds w t Y) : Rl m c w ⟨t.val - 1, Nat.lt_of_le_of_lt (Nat.sub_le _ _) t.isLt⟩ Y := by
  rcases (Pipeline.RDat.finds_of_pos (rd := rdat m c) (hin t) ht Y).mp h with h | h
  · have := (hfl _).mp h
    have h2 : t.val < 2 := t.isLt
    dsimp only at this
    omega
  · exact Dat.toRRel_leaves (dats m 0 c) hw h

/-- An output window is never fetched. -/
theorem nofetch (w : Fin cfg0.W) (hw : (cfg0.win w).isOut = true) (t : Fin cfg0.N) : (cfg0.win w).fetch t = false :=
  (cfg0.win w).fetch_out hw t

/-! ## The body at one point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜Rl m c 5 t X⌝ ∗ owns (c : Thread nD τ) (ms0_5 t) fullShare X)
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X))

section Point

variable (c : Dev nD) (t : Fin cfg0.N) (f5 : BufTy.Contents (Elt Ideal) (ms0_5 t).view.ty) (f6 : BufTy.Contents (Elt Ideal) (ms0_6 t).view.ty) (f7 : BufTy.Contents (Elt Ideal) (ms0_7 t).view.ty) (f8 : BufTy.Contents (Elt Ideal) (ms0_8 t).view.ty) (f9 : BufTy.Contents (Elt Ideal) (ms0_9 t).view.ty) (f10 : BufTy.Contents (Elt Ideal) (ms0_10 t).view.ty) (fs0 : BufTy.Contents (Elt Ideal) scM0_0.view.ty) (fs1 : BufTy.Contents (Elt Ideal) scM0_1.view.ty) (fs2 : BufTy.Contents (Elt Ideal) scM0_2.view.ty) (fs3 : BufTy.Contents (Elt Ideal) scM0_3.view.ty) (fs4 : BufTy.Contents (Elt Ideal) scM0_4.view.ty) (fs5 : BufTy.Contents (Elt Ideal) scM0_5.view.ty) (fs6 : BufTy.Contents (Elt Ideal) scM0_6.view.ty)

/-- The body's run on point `t`'s memrefs. -/
abbrev KR := kernelRun (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (X0 m c t) (X1 m c t) (X2 m c t) (X3 m c t) (X4 m c t) f5 f6 f7 f8 f9 f10 fs0 fs1 fs2 fs3 fs4 fs5 fs6

/-- The body leaves the image gradients, -/
theorem left5 : P5 m c t ((ms0_5 t).view.read (Elt Ideal) ((ms0_5 t).view.writes (Elt Ideal) f5 (KR m c t f5 f6 f7 f8 f9 f10 fs0 fs1 fs2 fs3 fs4 fs5 fs6).1)) :=
  fun a d => img_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (X0 m c t) (X1 m c t) (X2 m c t) (X3 m c t) (X4 m c t) f5 f6 f7 f8 f9 f10 fs0 fs1 fs2 fs3 fs4 fs5 fs6 a d

/-- the text gradients, -/
theorem left6 : P6 m c t ((ms0_6 t).view.read (Elt Ideal) ((ms0_6 t).view.writes (Elt Ideal) f6 (KR m c t f5 f6 f7 f8 f9 f10 fs0 fs1 fs2 fs3 fs4 fs5 fs6).2.1)) :=
  fun a d => txt_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (X0 m c t) (X1 m c t) (X2 m c t) (X3 m c t) (X4 m c t) f5 f6 f7 f8 f9 f10 fs0 fs1 fs2 fs3 fs4 fs5 fs6 a d

/-- the scalar, from what the point before left, -/
theorem left7 (h : (rdat m c).Finds 7 t ((ms0_7 t).view.read (Elt Ideal) f7)) :
    P7 m c t ((ms0_7 t).view.read (Elt Ideal) ((ms0_7 t).view.writes (Elt Ideal) f7 (KR m c t f5 f6 f7 f8 f9 f10 fs0 fs1 fs2 fs3 fs4 fs5 fs6).2.2.1)) := by
  refine (total_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (X0 m c t) (X1 m c t) (X2 m c t) (X3 m c t) (X4 m c t) f5 f6 f7 f8 f9 f10 fs0 fs1 fs2 fs3 fs4 fs5 fs6).trans ?_
  rw [show (grid0.coords t 0).val = t.val from bat_val t]
  by_cases ht : t.val = 0
  · rw [if_pos ht, if_pos ht, zero_add]; rfl
  · rw [if_neg ht, if_neg ht]
    have h0 : P7 m c ⟨t.val - 1, _⟩ _ := carried m (w := 7) rfl (nofetch 7 rfl) flush0_7 ht h
    have h2 : t.val < 2 := t.isLt
    have e : (⟨t.val - 1, Nat.lt_of_le_of_lt (Nat.sub_le _ _) t.isLt⟩ : Fin cfg0.N) = t0_0 := Fin.ext (by show t.val - 1 = 0; omega)
    rw [e] at h0
    refine congrArg (· + tot m c t) (Eq.trans h0 (if_pos rfl))

/-- the row sums, with those of the points before, -/
theorem left8 (h : (rdat m c).Finds 8 t ((ms0_8 t).view.read (Elt Ideal) f8)) :
    Prow (g8 m c) t ((ms0_8 t).view.read (Elt Ideal) ((ms0_8 t).view.writes (Elt Ideal) f8 (KR m c t f5 f6 f7 f8 f9 f10 fs0 fs1 fs2 fs3 fs4 fs5 fs6).2.2.2.1)) := by
  intro s hs a
  refine (drows_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (X0 m c t) (X1 m c t) (X2 m c t) (X3 m c t) (X4 m c t) f5 f6 f7 f8 f9 f10 fs0 fs1 fs2 fs3 fs4 fs5 fs6 (bat s) a).trans ?_
  rw [show (grid0.coords t 0).val = t.val from bat_val t, bat_val s]
  by_cases hst : s.val = t.val
  · rw [if_pos hst, Fin.ext hst]; rfl
  · rw [if_neg hst]
    have h0 : Prow (g8 m c) ⟨t.val - 1, _⟩ _ := carried m (w := 8) rfl (nofetch 8 rfl) flush0_8 (by omega) h
    exact h0 s (by show s.val ≤ t.val - 1; omega) a

/-- the rows' log-sum-exps likewise, -/
theorem left9 (h : (rdat m c).Finds 9 t ((ms0_9 t).view.read (Elt Ideal) f9)) :
    Prow (g9 m c) t ((ms0_9 t).view.read (Elt Ideal) ((ms0_9 t).view.writes (Elt Ideal) f9 (KR m c t f5 f6 f7 f8 f9 f10 fs0 fs1 fs2 fs3 fs4 fs5 fs6).2.2.2.2.1)) := by
  intro s hs a
  refine (row_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (X0 m c t) (X1 m c t) (X2 m c t) (X3 m c t) (X4 m c t) f5 f6 f7 f8 f9 f10 fs0 fs1 fs2 fs3 fs4 fs5 fs6 (bat s) a).trans ?_
  rw [show (grid0.coords t 0).val = t.val from bat_val t, bat_val s]
  by_cases hst : s.val = t.val
  · rw [if_pos hst, Fin.ext hst]; rfl
  · rw [if_neg hst]
    have h0 : Prow (g9 m c) ⟨t.val - 1, _⟩ _ := carried m (w := 9) rfl (nofetch 9 rfl) flush0_9 (by omega) h
    exact h0 s (by show s.val ≤ t.val - 1; omega) a

/-- and the columns'. -/
theorem left10 (h : (rdat m c).Finds 10 t ((ms0_10 t).view.read (Elt Ideal) f10)) :
    Prow (g10 m c) t ((ms0_10 t).view.read (Elt Ideal) ((ms0_10 t).view.writes (Elt Ideal) f10 (KR m c t f5 f6 f7 f8 f9 f10 fs0 fs1 fs2 fs3 fs4 fs5 fs6).2.2.2.2.2.1)) := by
  intro s hs a
  refine (col_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (X0 m c t) (X1 m c t) (X2 m c t) (X3 m c t) (X4 m c t) f5 f6 f7 f8 f9 f10 fs0 fs1 fs2 fs3 fs4 fs5 fs6 (bat s) a).trans ?_
  rw [show (grid0.coords t 0).val = t.val from bat_val t, bat_val s]
  by_cases hst : s.val = t.val
  · rw [if_pos hst, Fin.ext hst]; rfl
  · rw [if_neg hst]
    have h0 : Prow (g10 m c) ⟨t.val - 1, _⟩ _ := carried m (w := 10) rfl (nofetch 10 rfl) flush0_10 (by omega) h
    exact h0 s (by show s.val ≤ t.val - 1; omega) a

end Point

set_option maxHeartbeats 3200000 in
/-- The body at any point: it leaves in the outputs what `Rl` says. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold owns
  iintro ⟨⟨⟨⟨%e0, %fs0, %hs0, HS0⟩, ⟨%e1, %fs1, %hs1, HS1⟩, ⟨%e2, %fs2, %hs2, HS2⟩, ⟨%e3, %fs3, %hs3, HS3⟩, ⟨%e4, %fs4, %hs4, HS4⟩, ⟨%e5, %fs5, %hs5, HS5⟩, ⟨%e6, %fs6, %hs6, HS6⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%Y5, %hY5, %f5, %hf5, H5⟩, ⟨%Y6, %hY6, %f6, %hf6, H6⟩, ⟨%Y7, %hY7, %f7, %hf7, H7⟩, ⟨%Y8, %hY8, %f8, %hf8, H8⟩, ⟨%Y9, %hY9, %f9, %hf9, H9⟩, ⟨%Y10, %hY10, %f10, %hf10, H10⟩⟩
  subst hf7
  subst hf8
  subst hf9
  subst hf10
  iapply ((KR m c t f5 f6 f7 f8 f9 f10 fs0 fs1 fs2 fs3 fs4 fs5 fs6).2.2.2.2.2.2 Set.univ _)
  unfold owns
  isplitl [H0]
  · iexists f0; isplitr; swap; · iexact H0
    ipureintro; exact hf0
  isplitl [H1]
  · iexists f1; isplitr; swap; · iexact H1
    ipureintro; exact hf1
  isplitl [H2]
  · iexists f2; isplitr; swap; · iexact H2
    ipureintro; exact hf2
  isplitl [H3]
  · iexists f3; isplitr; swap; · iexact H3
    ipureintro; exact hf3
  isplitl [H4]
  · iexists f4; isplitr; swap; · iexact H4
    ipureintro; exact hf4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap
    · iexists _; isplitr; swap; · iexact H5
      ipureintro; rfl
    ipureintro; exact left5 m c t f5 f6 f7 f8 f9 f10 fs0 fs1 fs2 fs3 fs4 fs5 fs6
  isplitl [H6]
  · iexists _; isplitr; swap
    · iexists _; isplitr; swap; · iexact H6
      ipureintro; rfl
    ipureintro; exact left6 m c t f5 f6 f7 f8 f9 f10 fs0 fs1 fs2 fs3 fs4 fs5 fs6
  isplitl [H7]
  · iexists _; isplitr; swap
    · iexists _; isplitr; swap; · iexact H7
      ipureintro; rfl
    ipureintro; exact left7 m c t f5 f6 f7 f8 f9 f10 fs0 fs1 fs2 fs3 fs4 fs5 fs6 hY7
  isplitl [H8]
  · iexists _; isplitr; swap
    · iexists _; isplitr; swap; · iexact H8
      ipureintro; rfl
    ipureintro; exact left8 m c t f5 f6 f7 f8 f9 f10 fs0 fs1 fs2 fs3 fs4 fs5 fs6 hY8
  isplitl [H9]
  · iexists _; isplitr; swap
    · iexists _; isplitr; swap; · iexact H9
      ipureintro; rfl
    ipureintro; exact left9 m c t f5 f6 f7 f8 f9 f10 fs0 fs1 fs2 fs3 fs4 fs5 fs6 hY9
  iexists _; isplitr; swap
  · iexists _; isplitr; swap; · iexact H10
    ipureintro; rfl
  ipureintro; exact left10 m c t f5 f6 f7 f8 f9 f10 fs0 fs1 fs2 fs3 fs4 fs5 fs6 hY10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligationRel (dats m 0 c) (defs₀ (F := Ideal)) Variants.none () Set.univ marked (Rl m c) := fun t => by
  rw [bigSep_W0, bigSep_W0, defs₀_row]
  exact triple_restated (sound_body m c t) rfl .rfl fun _ => .rfl

/-! ## The run -/

set_option backward.isDefEq.respectTransparency.types false in
/-- Every execution ends, with the arrays as the proof data say and every counter at zero. -/
theorem run_main : θ_run defs (onTc (τ := τ) (main (F := Ideal))) (s₀ m ρ)
    (fun r => Pipeline.RDat.FramePost (cfgs 0) (rdat m) (V m) r ∧ r.2.sem = fun _ => 0) :=
  Pipeline.RDat.θ_run_frame cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)
    (Q' := fun r => Pipeline.RDat.FramePost (cfgs 0) (rdat m) (V m) r ∧ r.2.sem = fun _ => 0)

/-- The argument arrays end unchanged. -/
theorem kept {r : PUnit × MemSt nD τ sig (Elt Ideal)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 1 rfl).trans ((A_eq m c 1).trans (V_main_arg0 m c)),
    (Pipeline.RDat.FramePost.arr_in h c 3 rfl).trans ((A_eq m c 3).trans (V_main_arg1 m c)),
    (Pipeline.RDat.FramePost.arr_in h c 2 rfl).trans ((A_eq m c 2).trans (V_main_arg2 m c)),
    (Pipeline.RDat.FramePost.arr_in h c 4 rfl).trans ((A_eq m c 4).trans (V_main_arg3 m c)),
    ((h c).2 main_arg4 (Pipeline.mem_restRefs_of main_arg4 (by decide) (by decide))).trans (V_main_arg4 m c)⟩

/-- THE FRAME: every execution ends with the argument arrays unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨kept m h.1, h.2⟩) (run_main m ρ)

end Cert.KernelIdeal.Val

end
-- ==== Proof.Plain.lean ====
/- What one batch of the reference computes, written over the extended reals for any square table of logits, and that it is
   what the kernel computes from the same logits in base two. -/
module

public import proofs.«01_k».proof.Proof.Spec
public import proofs.«01_k».proof.Proof.EReals

@[expose] public section

noncomputable section

namespace Cert.Plain

open Idealize.ShloMosaic

/-- The log-sum-exp of a family, its largest value taken out. -/
def lse {n : ℕ} (f : Fin n → EReal) : EReal := Spec.top f + Ideal.log (∑ j, Ideal.exp (f j - Spec.top f))

/-- The gradient of the loss at a logit. -/
def grad (X : Spec.Mat) (i j : Fin 1920) : EReal :=
  Ideal.div (Ideal.exp (X i j - lse (X i)) + Ideal.exp (X i j - lse (fun a => X a j))) ((3840 : ℝ) : EReal)
    - Ideal.div (if i = j then (1 : EReal) else 0) ((1920 : ℝ) : EReal)

/-- The sum along a row of the gradient times the logit. -/
def rowSum (X : Spec.Mat) (i : Fin 1920) : EReal := ∑ j, grad X i j * X i j

/-- The logits of a batch: codes `u v`, their scales `us vs`, the temperature `t`. -/
def logit (t : EReal) (u v : Fin 1920 → Fin 1024 → EReal) (us vs : Fin 1920 → EReal) : Spec.Mat := fun i j =>
  (t * us i) * vs j * ∑ d, u i d * v j d

/-- The image gradient of a batch, -/
def img (t : EReal) (u v : Fin 1920 → Fin 1024 → EReal) (us vs : Fin 1920 → EReal) (i : Fin 1920) (d : Fin 1024) : EReal :=
  t * ∑ j, grad (logit t u v us vs) i j * (v j d * vs j)

/-- and the text gradient. -/
def txt (t : EReal) (u v : Fin 1920 → Fin 1024 → EReal) (us vs : Fin 1920 → EReal) (j : Fin 1920) (d : Fin 1024) : EReal :=
  t * ∑ i, grad (logit t u v us vs) i j * (u i d * us i)

end Cert.Plain

end
-- ==== Proof.BaseTwo.lean ====
/- The kernel's base-two values are the reference's natural ones: the same logits scaled by `1 / log 2` give the same
   log-sum-exps, the same gradient and the same row sums, at every extended real. -/
module

public import proofs.«01_k».proof.Proof.Plain

@[expose] public section

noncomputable section

namespace Cert.BaseTwo

open Idealize.ShloMosaic
open Cert.Spec (ke l2 sh inv top Mat)

/-- The natural logarithm of two is positive. -/
theorem log_two_pos : 0 < Real.log 2 := Real.log_pos (by norm_num)

/-- The reciprocal of ln 2 is not negative. -/
theorem ke_nonneg : (0 : EReal) ≤ ke := EReal.coe_nonneg.mpr (inv_pos.mpr log_two_pos).le
/-- It is finite. -/
theorem ke_ne_top : ke ≠ ⊤ := EReal.coe_ne_top _

/-- It times ln 2 is one. -/
theorem ke_mul_l2 : ke * l2 = 1 := by
  rw [← EReal.coe_mul, inv_mul_cancel₀ log_two_pos.ne']; rfl

/-- It scales minus infinity to itself, -/
theorem bot_mul_ke : (⊥ : EReal) * ke = ⊥ := EReal.bot_mul_coe_of_pos (inv_pos.mpr log_two_pos)
/-- and plus infinity to itself. -/
theorem top_mul_ke : (⊤ : EReal) * ke = ⊤ := EReal.top_mul_coe_of_pos (inv_pos.mpr log_two_pos)

/-- It distributes over every sum, -/
theorem add_mul_ke (x y : EReal) : (x + y) * ke = x * ke + y * ke :=
  EReal.right_distrib_of_nonneg_of_ne_top ke_nonneg ke_ne_top x y

/-- and over every difference. -/
theorem sub_mul_ke (x y : EReal) : (x - y) * ke = x * ke - y * ke := by
  rw [sub_eq_add_neg, add_mul_ke, EReal.neg_mul, ← sub_eq_add_neg]

/-- A sum times a finite non-negative factor. -/
theorem sum_mul {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- Scaling a family scales its largest value. -/
theorem top_mul {n : ℕ} (f : Fin n → EReal) : top (fun j => f j * ke) = top f * ke := by
  have hm : ∀ x y : EReal, max x y * ke = max (x * ke) (y * ke) := fun x y =>
    Monotone.map_max (f := fun x : EReal => x * ke) fun a b h => mul_le_mul_of_nonneg_right h ke_nonneg
  have h := Finset.fold_hom (op := max) (op' := max) (m := fun x : EReal => x * ke) (f := f) (b := (⊥ : EReal)) (s := Finset.univ) hm
  rw [bot_mul_ke] at h
  exact h

/-- A power of two at a scaled exponent is a power of `e`. -/
theorem exp2_mul (x : EReal) : Ideal.exp2 (x * ke) = Ideal.exp x := by
  induction x using EReal.rec with
  | bot => rw [bot_mul_ke]; simp
  | top => rw [top_mul_ke]; simp
  | coe r =>
    rw [← EReal.coe_mul, Ideal.exp2_coe, Ideal.exp_coe]
    congr 1
    rw [Real.rpow_eq_pow, Real.rpow_def_of_pos (by norm_num)]
    congr 1
    field_simp

/-- An exponential is not negative. -/
theorem exp_nonneg (x : EReal) : 0 ≤ Ideal.exp x := by rw [← exp2_mul]; exact EReals.exp2_nonneg _

/-- The base-two log-sum-exp of scaled values is the scaled log-sum-exp. -/
theorem lse2_mul {n : ℕ} (f : Fin n → EReal) : Spec.lse2 (fun j => f j * ke) = Plain.lse f * ke := by
  unfold Spec.lse2 Plain.lse
  rw [top_mul, add_mul_ke]
  simp only [← sub_mul_ke, exp2_mul]

/-- Brought back to natural units it is the log-sum-exp. -/
theorem lse2_natural {n : ℕ} (f : Fin n → EReal) : Spec.lse2 (fun j => f j * ke) * l2 = Plain.lse f := by
  rw [lse2_mul, mul_assoc, ke_mul_l2, mul_one]

/-- Taking a real from an exponent divides the power. -/
theorem exp_sub_log (z : EReal) : Ideal.exp (z - ((Real.log 3840 : ℝ) : EReal)) = Ideal.exp z * ((1 / 3840 : ℝ) : EReal) := by
  induction z using EReal.rec with
  | bot => simp
  | top =>
    rw [EReal.top_sub_coe, Ideal.exp_top, EReal.top_mul_coe_of_pos (by norm_num)]
  | coe r =>
    rw [← EReal.coe_sub, Ideal.exp_coe, Ideal.exp_coe, ← EReal.coe_mul]
    congr 1
    rw [Real.exp_sub, Real.exp_log (by norm_num)]
    ring

/-- Taking away a sum whose second term is real is taking away its terms in turn. -/
theorem sub_add_coe (x y : EReal) (r : ℝ) : x - (y + (r : EReal)) = x - y - (r : EReal) := by
  induction y using EReal.rec with
  | bot =>
    induction x using EReal.rec with
    | bot => simp
    | top => simp
    | coe x => simp
  | top => simp
  | coe y =>
    induction x using EReal.rec with
    | bot => simp
    | top => rw [← EReal.coe_add, EReal.top_sub_coe, EReal.top_sub_coe, EReal.top_sub_coe]
    | coe x => rw [← EReal.coe_add, ← EReal.coe_sub, ← EReal.coe_sub, ← EReal.coe_sub]; congr 1; ring

/-- One of the two terms of the gradient. -/
theorem exp2_shift (x y : EReal) : Ideal.exp2 (x * ke - (y * ke + sh)) = Ideal.exp (x - y) * ((1 / 3840 : ℝ) : EReal) := by
  rw [show sh = ((Real.log 3840 : ℝ) : EReal) * ke from EReal.coe_mul _ _, ← add_mul_ke, ← sub_mul_ke, exp2_mul, sub_add_coe, exp_sub_log]

/-- The gradient is the same. -/
theorem grad_mul (X : Mat) (i j : Fin 1920) : Spec.grad (fun a b => X a b * ke) i j = Plain.grad X i j := by
  unfold Spec.grad Plain.grad
  rw [lse2_mul, lse2_mul (fun a => X a j), exp2_shift, exp2_shift, Ideal.div_coe (by norm_num), Ideal.div_coe (by norm_num),
    EReal.right_distrib_of_nonneg (exp_nonneg _) (exp_nonneg _)]
  congr 1
  by_cases h : i = j
  · rw [if_pos h, if_pos h, one_mul]
  · rw [if_neg h, if_neg h, zero_mul]

/-- The row sums are the same. -/
theorem rowSum_mul (X : Mat) (i : Fin 1920) : Spec.rowSum (fun a b => X a b * ke) i = Plain.rowSum X i := by
  unfold Spec.rowSum Plain.rowSum
  rw [sum_mul _ _ (EReal.coe_nonneg.mpr log_two_pos.le) (EReal.coe_ne_top _)]
  refine Finset.sum_congr rfl fun j _ => ?_
  rw [grad_mul, mul_assoc, mul_assoc, ke_mul_l2, mul_one]

/-- The kernel's logits are the reference's, scaled. -/
theorem logit_mul (t : EReal) (u v : Fin 1920 → Fin 1024 → EReal) (us vs : Fin 1920 → EReal) :
    Spec.logit t u v us vs = fun i j => Plain.logit t u v us vs i j * ke := by
  funext i j
  unfold Spec.logit Plain.logit
  generalize (∑ d, u i d * v j d) = s
  ac_rfl

section Batch

variable (t : EReal) (u v : Fin 1920 → Fin 1024 → EReal) (us vs : Fin 1920 → EReal)

/-- The gradient at the kernel's logits is the gradient at the reference's. -/
theorem grad_logit (i j : Fin 1920) : Spec.grad (Spec.logit t u v us vs) i j = Plain.grad (Plain.logit t u v us vs) i j := by
  rw [logit_mul]; exact grad_mul _ i j

/-- The image gradient is the same. -/
theorem img_eq (i : Fin 1920) (d : Fin 1024) :
    (∑ j, Spec.grad (Spec.logit t u v us vs) i j * (v j d * vs j)) * t = Plain.img t u v us vs i d := by
  unfold Plain.img
  simp only [grad_logit]
  exact mul_comm _ _

/-- The text gradient is the same. -/
theorem txt_eq (j : Fin 1920) (d : Fin 1024) :
    (∑ i, Spec.grad (Spec.logit t u v us vs) i j * (u i d * us i)) * t = Plain.txt t u v us vs j d := by
  unfold Plain.txt
  simp only [grad_logit]
  exact mul_comm _ _

/-- The row sums are the same. -/
theorem rowSum_eq (i : Fin 1920) : Spec.rowSum (Spec.logit t u v us vs) i = Plain.rowSum (Plain.logit t u v us vs) i := by
  rw [logit_mul]; exact rowSum_mul _ i

/-- The log-sum-exp of a row is the same, -/
theorem row_eq (i : Fin 1920) : Spec.lse2 (Spec.logit t u v us vs i) * l2 = Plain.lse (Plain.logit t u v us vs i) := by
  rw [logit_mul]; exact lse2_natural _

/-- and that of a column. -/
theorem col_eq (j : Fin 1920) :
    (Spec.lse2 fun i => Spec.logit t u v us vs i j) * l2 = Plain.lse fun i => Plain.logit t u v us vs i j := by
  rw [logit_mul]; exact lse2_natural _

end Batch

end Cert.BaseTwo

end
-- ==== Proof.KernelEnd.lean ====
/- What the kernel's result arrays hold at the end, element by element, in terms of the arguments. -/
module

public import proofs.«01_k».proof.Proof.Run
public import proofs.«01_k».proof.Proof.BaseTwo
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (c : Dev nD)

/-! ## The arguments, batch by batch -/

/-- The temperature. -/
def T : EReal := Ideal.exp ((m ((c : Thread nD τ).loc main_arg4) : FVec Ideal S_ .f32) ix0)
/-- The image codes, -/
def U (b : Fin 2) (a : Fin 1920) (d : Fin 1024) : EReal := (m ((c : Thread nD τ).loc main_arg0) : FVec Ideal S2x1920x1024 .fp8e4m3) (ix3 b a d)
/-- the image scales, -/
def US (b : Fin 2) (a : Fin 1920) : EReal := (m ((c : Thread nD τ).loc main_arg1) : FVec Ideal S2x1920 .f32) (ix2 b a)
/-- the text codes, -/
def W (b : Fin 2) (a : Fin 1920) (d : Fin 1024) : EReal := (m ((c : Thread nD τ).loc main_arg2) : FVec Ideal S2x1920x1024 .fp8e4m3) (ix3 b a d)
/-- and the text scales. -/
def WS (b : Fin 2) (a : Fin 1920) : EReal := (m ((c : Thread nD τ).loc main_arg3) : FVec Ideal S2x1920 .f32) (ix2 b a)

/-! ## The blocks a point reads -/

/-- The block index of window 1 at a point. -/
theorem index_1 : ∀ t, win0_1.index t = ![(grid0.coords t 0).val, 0, 0] := by decide +kernel
/-- The block index of window 2 at a point. -/
theorem index_2 : ∀ t, win0_2.index t = ![(grid0.coords t 0).val, 0, 0] := by decide +kernel
/-- The block index of window 5 at a point. -/
theorem index_5 : ∀ t, win0_5.index t = ![(grid0.coords t 0).val, 0, 0] := by decide +kernel
/-- The block index of window 6 at a point. -/
theorem index_6 : ∀ t, win0_6.index t = ![(grid0.coords t 0).val, 0, 0] := by decide +kernel
/-- The block index of window 0 at a point. -/
theorem index_0 : ∀ t, win0_0.index t = ![0, 0] := by decide +kernel
/-- The block index of window 3 at a point. -/
theorem index_3 : ∀ t, win0_3.index t = ![0, 0] := by decide +kernel
/-- The block index of window 4 at a point. -/
theorem index_4 : ∀ t, win0_4.index t = ![0, 0] := by decide +kernel

/-- The first block's exponential is the temperature. -/
theorem X0_apply (t : Fin cfg0.N) : Ideal.exp (X0 m c t (ix2 0 0)) = T m c := by
  unfold T
  refine congrArg Ideal.exp ?_
  blk_ext! [iblk, V, index_0 t]

/-- A point reads its batch element's image codes, -/
theorem X1_apply (t : Fin cfg0.N) (a : Fin 1920) (d : Fin 1024) : X1 m c t (ix3 0 a d) = U m c (bat t) a d := by
  unfold U
  blk_ext [iblk, V, index_1 t]
  all_goals rfl

/-- its text codes, -/
theorem X2_apply (t : Fin cfg0.N) (a : Fin 1920) (d : Fin 1024) : X2 m c t (ix3 0 a d) = W m c (bat t) a d := by
  unfold W
  blk_ext [iblk, V, index_2 t]
  all_goals rfl

/-- all image scales -/
theorem X3_apply (t : Fin cfg0.N) (b : Fin 2) (a : Fin 1920) : X3 m c t (ix2 b a) = US m c b a := by
  unfold US
  blk_ext [iblk, V, index_3 t]
  all_goals rfl

/-- and all text scales. -/
theorem X4_apply (t : Fin cfg0.N) (b : Fin 2) (a : Fin 1920) : X4 m c t (ix2 b a) = WS m c b a := by
  unfold WS
  blk_ext [iblk, V, index_4 t]
  all_goals rfl

/-- A point's logits, in terms of the arguments. -/
theorem M_eq (t : Fin cfg0.N) : M m c t = Spec.logit (T m c) (U m c (bat t)) (W m c (bat t)) (US m c (bat t)) (WS m c (bat t)) := by
  unfold M mat
  simp only [X0_apply, X1_apply, X2_apply, X3_apply, X4_apply]

/-- Its image gradient is the plain one, -/
theorem img_apply (t : Fin cfg0.N) (a : Fin 1920) (d : Fin 1024) :
    img m c t a d = Plain.img (T m c) (U m c (bat t)) (W m c (bat t)) (US m c (bat t)) (WS m c (bat t)) a d := by
  unfold img
  simp only [X0_apply, X2_apply, X4_apply, M_eq]
  exact BaseTwo.img_eq _ _ _ _ _ a d

/-- and so is its text gradient. -/
theorem txt_apply (t : Fin cfg0.N) (j : Fin 1920) (d : Fin 1024) :
    txt m c t j d = Plain.txt (T m c) (U m c (bat t)) (W m c (bat t)) (US m c (bat t)) (WS m c (bat t)) j d := by
  unfold txt
  simp only [X0_apply, X1_apply, X3_apply, M_eq]
  exact BaseTwo.txt_eq _ _ _ _ _ j d

/-- The logits of batch element `b`. -/
def X (b : Fin 2) : Spec.Mat := Plain.logit (T m c) (U m c b) (W m c b) (US m c b) (WS m c b)

/-- Its row sums are the plain ones, -/
theorem g8_apply (t : Fin cfg0.N) (a : Fin 1920) : g8 m c t a = Plain.rowSum (X m c (bat t)) a := by
  unfold g8; rw [M_eq]; exact BaseTwo.rowSum_eq _ _ _ _ _ a
/-- its rows' log-sum-exps, -/
theorem g9_apply (t : Fin cfg0.N) (a : Fin 1920) : g9 m c t a = Plain.lse (X m c (bat t) a) := by
  unfold g9; rw [M_eq]; exact BaseTwo.row_eq _ _ _ _ _ a
/-- its columns' log-sum-exps, -/
theorem g10_apply (t : Fin cfg0.N) (a : Fin 1920) : g10 m c t a = Plain.lse fun i => X m c (bat t) i a := by
  unfold g10; rw [M_eq]; exact BaseTwo.col_eq _ _ _ _ _ a
/-- and the total of its row sums. -/
theorem tot_apply (t : Fin cfg0.N) : tot m c t = ∑ a, Plain.rowSum (X m c (bat t)) a :=
  Finset.sum_congr rfl fun a _ => g8_apply m c t a

/-! ## The arrays at the end -/

/-- Each batch element has its grid point. -/
theorem bat_surj (b : Fin 2) : ∃ t : Fin cfg0.N, bat t = b := ⟨(⟨b.val, b.isLt⟩ : Fin grid0.N), Fin.ext (bat_val _)⟩

/-- The first point takes batch element zero, -/
theorem bat_0 : bat t0_0 = 0 := Fin.ext (bat_val _)
/-- and the second, one. -/
theorem bat_1 : bat t0_1 = 1 := Fin.ext (bat_val _)

/-- Different points have different blocks of the image gradients, -/
theorem idx_inj5 : ∀ t t' : Fin cfg0.N, win0_5.index t = win0_5.index t' → t = t' :=
  (by decide +kernel : ∀ t t' : Fin grid0.N, win0_5.index t = win0_5.index t' → t = t')
/-- and different blocks of the text gradients. -/
theorem idx_inj6 : ∀ t t' : Fin cfg0.N, win0_6.index t = win0_6.index t' → t = t' :=
  (by decide +kernel : ∀ t t' : Fin grid0.N, win0_6.index t = win0_6.index t' → t = t')
/-- Those blocks of the image gradients share no element, -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)
/-- nor do those of the text gradients. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

variable {m} {r : PUnit × MemSt nD τ sig (Elt Ideal)} (h : Pipeline.RDat.FramePost (cfgs 0) (rdat m) (V m) r)
include h

/-- The image gradients, -/
theorem end5 (b : Fin 2) (a : Fin 1920) (d : Fin 1024) :
    (r.2.mem ((c : Thread nD τ).loc main_v1_0) : FVec Ideal S2x1920x1024 .bf16) (ix3 b a d)
      = Plain.img (T m c) (U m c b) (W m c b) (US m c b) (WS m c b) a d := by
  obtain ⟨after, hL, hA⟩ := Pipeline.RDat.FramePost.exists_exact h c
  obtain ⟨t, rfl⟩ := bat_surj b
  have h5 : P5 m c t (after 5 t) := Dat.toRRel_leaves (dats m 0 c) rfl (hL 5 t (flush0_5 t))
  have e5 : r.2.mem ((c : Thread nD τ).loc main_v1_0) = ((rdat m c).withAfter after).arrAt 5 cfg0.N := hA 5
  have e := congrFun (((rdat m c).withAfter after).read_blk_arrAt_eq_flushed 5 disjoint5 cfg0.N t t.isLt (flush0_5 t)) (ix3 0 a d)
  rw [e5, ← img_apply]
  refine Eq.trans ?_ (h5 a d)
  refine Eq.trans ?_ (e.trans ?_)
  · blk_ext [index_5 t]
    all_goals rfl
  · blk_simp
    rfl

/-- the text gradients, -/
theorem end6 (b : Fin 2) (a : Fin 1920) (d : Fin 1024) :
    (r.2.mem ((c : Thread nD τ).loc main_v1_1) : FVec Ideal S2x1920x1024 .bf16) (ix3 b a d)
      = Plain.txt (T m c) (U m c b) (W m c b) (US m c b) (WS m c b) a d := by
  obtain ⟨after, hL, hA⟩ := Pipeline.RDat.FramePost.exists_exact h c
  obtain ⟨t, rfl⟩ := bat_surj b
  have h6 : P6 m c t (after 6 t) := Dat.toRRel_leaves (dats m 0 c) rfl (hL 6 t (flush0_6 t))
  have e6 : r.2.mem ((c : Thread nD τ).loc main_v1_1) = ((rdat m c).withAfter after).arrAt 6 cfg0.N := hA 6
  have e := congrFun (((rdat m c).withAfter after).read_blk_arrAt_eq_flushed 6 disjoint6 cfg0.N t t.isLt (flush0_6 t)) (ix3 0 a d)
  rw [e6, ← txt_apply]
  refine Eq.trans ?_ (h6 a d)
  refine Eq.trans ?_ (e.trans ?_)
  · blk_ext [index_6 t]
    all_goals rfl
  · blk_simp
    rfl

/-- the gradient of the temperature's logarithm, -/
theorem end7 : (r.2.mem ((c : Thread nD τ).loc main_v1_2) : FVec Ideal S1x1 .f32) (ix2 0 0) = ∑ b : Fin 2, ∑ a, Plain.rowSum (X m c b) a := by
  obtain ⟨after, hL, hA⟩ := Pipeline.RDat.FramePost.exists_exact h c
  have h7 : P7 m c t0_1 (after 7 t0_1) := Dat.toRRel_leaves (dats m 0 c) rfl (hL 7 t0_1 ((flush0_7 _).mpr rfl))
  have e7 : r.2.mem ((c : Thread nD τ).loc main_v1_2) = ((rdat m c).withAfter after).arrAt 7 cfg0.N := hA 7
  rw [e7, Fin.sum_univ_two, ← bat_0, ← bat_1, ← tot_apply, ← tot_apply]
  refine Eq.trans ?_ (h7.trans (if_neg (by decide)))
  refine (((rdat m c).withAfter after).arrAt_emb_eq_after_last 7 t0_1 (by decide +kernel) (ix2 0 0)).trans ?_
  rfl

/-- the row sums of the gradient times the logit, -/
theorem end8 (b : Fin 2) (a : Fin 1920) : (r.2.mem ((c : Thread nD τ).loc main_v1_3) : FVec Ideal S2x1920 .f32) (ix2 b a) = Plain.rowSum (X m c b) a := by
  obtain ⟨after, hL, hA⟩ := Pipeline.RDat.FramePost.exists_exact h c
  obtain ⟨t, rfl⟩ := bat_surj b
  have h1 : Prow (g8 m c) t0_1 (after 8 t0_1) := Dat.toRRel_leaves (dats m 0 c) rfl (hL 8 t0_1 ((flush0_8 _).mpr rfl))
  have e1 : r.2.mem ((c : Thread nD τ).loc main_v1_3) = ((rdat m c).withAfter after).arrAt 8 cfg0.N := hA 8
  have ht : t.val < 2 := t.isLt
  rw [e1, ← g8_apply]
  refine Eq.trans ?_ (h1 t (by show t.val ≤ 1; omega) a)
  refine (((rdat m c).withAfter after).arrAt_emb_eq_after_last 8 t0_1 (by decide +kernel) (ix2 (bat t) a)).trans ?_
  rfl

/-- the log-sum-exps of the rows, -/
theorem end9 (b : Fin 2) (a : Fin 1920) : (r.2.mem ((c : Thread nD τ).loc main_v1_4) : FVec Ideal S2x1920 .f32) (ix2 b a) = Plain.lse (X m c b a) := by
  obtain ⟨after, hL, hA⟩ := Pipeline.RDat.FramePost.exists_exact h c
  obtain ⟨t, rfl⟩ := bat_surj b
  have h1 : Prow (g9 m c) t0_1 (after 9 t0_1) := Dat.toRRel_leaves (dats m 0 c) rfl (hL 9 t0_1 ((flush0_9 _).mpr rfl))
  have e1 : r.2.mem ((c : Thread nD τ).loc main_v1_4) = ((rdat m c).withAfter after).arrAt 9 cfg0.N := hA 9
  have ht : t.val < 2 := t.isLt
  rw [e1, ← g9_apply]
  refine Eq.trans ?_ (h1 t (by show t.val ≤ 1; omega) a)
  refine (((rdat m c).withAfter after).arrAt_emb_eq_after_last 9 t0_1 (by decide +kernel) (ix2 (bat t) a)).trans ?_
  rfl

/-- and of the columns. -/
theorem end10 (b : Fin 2) (a : Fin 1920) : (r.2.mem ((c : Thread nD τ).loc main_v1_5) : FVec Ideal S2x1920 .f32) (ix2 b a) = Plain.lse fun i => X m c b i a := by
  obtain ⟨after, hL, hA⟩ := Pipeline.RDat.FramePost.exists_exact h c
  obtain ⟨t, rfl⟩ := bat_surj b
  have h1 : Prow (g10 m c) t0_1 (after 10 t0_1) := Dat.toRRel_leaves (dats m 0 c) rfl (hL 10 t0_1 ((flush0_10 _).mpr rfl))
  have e1 : r.2.mem ((c : Thread nD τ).loc main_v1_5) = ((rdat m c).withAfter after).arrAt 10 cfg0.N := hA 10
  have ht : t.val < 2 := t.isLt
  rw [e1, ← g10_apply]
  refine Eq.trans ?_ (h1 t (by show t.val ≤ 1; omega) a)
  refine (((rdat m c).withAfter after).arrAt_emb_eq_after_last 10 t0_1 (by decide +kernel) (ix2 (bat t) a)).trans ?_
  rfl

end Cert.KernelIdeal.Val

end
-- ==== Proof.RefRead.lean ====
/- The values the reference program computes, read at an index. -/
module

public import proofs.«01_k».proof.Proof.Gen.ReferenceIdeal.Skeleton
public import proofs.«01_k».proof.Proof.Consts
public import proofs.«01_k».proof.Proof.Plain
public import Idealize.ShloMosaic.Lib.Pointwise

@[expose] public section

set_option maxRecDepth 16384

noncomputable section

namespace Cert.ReferenceIdeal.Val

open Idealize.ShloMosaic Cert.ReferenceIdeal Cert.ReferenceIdeal.Gen

variable (u v : FVec Ideal S2x1920x1024 .fp8e4m3) (us vs : FVec Ideal S2x1920 .f32) (x : FVec Ideal S1x1 .f32)

/-- The temperature. -/
theorem pay2_apply : k0_pay2 (F := Ideal) x (ix2 0 0) = Ideal.exp (x (ix2 0 0)) := by
  pointwise [k0_pay2]

/-- The logits. -/
theorem pay3_apply (b : Fin 2) (i j : Fin 1920) :
    k0_pay3 (F := Ideal) u us v vs x (ix3 b i j)
      = ((Ideal.exp (x (ix2 0 0)) * us (ix2 b i)) * vs (ix2 b j) * ∑ d : Fin 1024, u (ix3 b i d) * v (ix3 b j d) : EReal) := by
  pointwise [k0_pay3, k0_pay2]

variable (X : FVec Ideal S2x1920x1920 .f32) (r s : FVec Ideal S2x1920 .f32)

/-- The largest element of each row, -/
theorem row_top (b : Fin 2) (i : Fin 1920) :
    multiReduction (F := Ideal) .maximumf [2] S2x1920 X 0xFF800000#32 reduces_S2x1920x1920_S2x1920 (.inl rfl) rfl (ix2 b i)
      = Spec.top fun j => X (ix3 b i j) := by
  unfold Spec.top
  pointwise [Consts.ofBits_neg_inf]

/-- and of each column. -/
theorem col_top (b : Fin 2) (j : Fin 1920) :
    multiReduction (F := Ideal) .maximumf [1] S2x1920 X 0xFF800000#32 reduces_S2x1920x1920_S2x1920_2 (.inl rfl) rfl (ix2 b j)
      = Spec.top fun i => X (ix3 b i j) := by
  unfold Spec.top
  pointwise [Consts.ofBits_neg_inf]

/-- A log-sum-exp along the rows, the values taken out named `r`, -/
theorem row_lse (b : Fin 2) (i : Fin 1920) :
    shapeCast S2x1920 (addf (shapeCast S2x1920x1 r shapeCasts_S2x1920_S2x1920x1)
      (log (shapeCast S2x1920x1 (multiReduction (F := Ideal) .add [2] S2x1920
        (exp (subf X (broadcastTo S2x1920x1920 (shapeCast S2x1920x1 r shapeCasts_S2x1920_S2x1920x1) broadcasts_S2x1920x1_S2x1920x1920)))
        0x00000000#32 reduces_S2x1920x1920_S2x1920 (.inl rfl) rfl) shapeCasts_S2x1920_S2x1920x1))) shapeCasts_S2x1920x1_S2x1920 (ix2 b i)
      = (r (ix2 b i) + Ideal.log (∑ j : Fin 1920, Ideal.exp (X (ix3 b i j) - r (ix2 b i))) : EReal) := by
  pointwise

/-- and along the columns. -/
theorem col_lse (b : Fin 2) (j : Fin 1920) :
    shapeCast S2x1920 (addf (shapeCast S2x1x1920 r shapeCasts_S2x1920_S2x1x1920)
      (log (shapeCast S2x1x1920 (multiReduction (F := Ideal) .add [1] S2x1920
        (exp (subf X (broadcastTo S2x1920x1920 (shapeCast S2x1x1920 r shapeCasts_S2x1920_S2x1x1920) broadcasts_S2x1x1920_S2x1920x1920)))
        0x00000000#32 reduces_S2x1920x1920_S2x1920_2 (.inl rfl) rfl) shapeCasts_S2x1920_S2x1x1920))) shapeCasts_S2x1x1920_S2x1920 (ix2 b j)
      = (r (ix2 b j) + Ideal.log (∑ i : Fin 1920, Ideal.exp (X (ix3 b i j) - r (ix2 b j))) : EReal) := by
  pointwise

/-- The log-sum-exp of each row, -/
theorem pay4_apply (b : Fin 2) (i : Fin 1920) :
    k0_pay4 (F := Ideal) u us v vs x (ix2 b i) = Plain.lse fun j => k0_pay3 (F := Ideal) u us v vs x (ix3 b i j) := by
  unfold Plain.lse
  rw [← row_top]
  exact row_lse (k0_pay3 (F := Ideal) u us v vs x) _ b i

/-- and of each column. -/
theorem pay5_apply (b : Fin 2) (j : Fin 1920) :
    k0_pay5 (F := Ideal) u us v vs x (ix2 b j) = Plain.lse fun i => k0_pay3 (F := Ideal) u us v vs x (ix3 b i j) := by
  unfold Plain.lse
  rw [← col_top]
  exact col_lse (k0_pay3 (F := Ideal) u us v vs x) _ b j

/-- The unit table. -/
theorem eye_apply (i j : Fin 1920) :
    sitofp (F := Ideal) .f32 (extui 32 k0_pay6 natLt_1_32) (ix2 i j) = if i = j then (1 : EReal) else 0 := by
  have hi := i.isLt
  have hj := j.isLt
  have h : (IntOp.addi (BitVec.ofNat 32 i.val) 0#32 = BitVec.ofNat 32 j.val) ↔ i = j := by
    rw [← BitVec.toNat_inj, Fin.ext_iff]
    simp [IntOp.addi]
    omega
  have e : k0_pay6 (ix2 i j) = IntOp.cmpi CmpIPredicate.eq (IntOp.addi (BitVec.ofNat 32 i.val) 0#32) (BitVec.ofNat 32 j.val) := by
    pointwise [k0_pay6]
  show ((((k0_pay6 (ix2 i j)).setWidth 32).toInt : ℝ) : EReal) = _
  rw [e]
  by_cases he : i = j
  · rw [if_pos he]; simp [IntOp.cmpi, h.mpr he]
  · have hb : (IntOp.addi (BitVec.ofNat 32 i.val) 0#32 == BitVec.ofNat 32 j.val) = false := beq_eq_false_iff_ne.mpr (mt h.mp he)
    rw [if_neg he]
    simp [IntOp.cmpi, hb]

/-- The gradient at a logit, -/
theorem pay7_apply (b : Fin 2) (i j : Fin 1920) :
    k0_pay7 (F := Ideal) X r s k0_pay6 (ix3 b i j)
      = (Ideal.div (Ideal.exp (X (ix3 b i j) - r (ix2 b i)) + Ideal.exp (X (ix3 b i j) - s (ix2 b j))) ((3840 : ℝ) : EReal)
        - Ideal.div (if i = j then (1 : EReal) else 0) ((1920 : ℝ) : EReal) : EReal) := by
  rw [← eye_apply i j, ← Consts.ofBits_3840, ← Consts.ofBits_1920]
  generalize k0_pay6 = e
  pointwise [k0_pay7]

/-- the sums along a row of the gradient times the logit, -/
theorem pay8_apply (e : IVec S1920x1920 1) (b : Fin 2) (i : Fin 1920) :
    k0_pay8 (F := Ideal) X r s e (ix2 b i) = (∑ j : Fin 1920, k0_pay7 (F := Ideal) X r s e (ix3 b i j) * X (ix3 b i j) : EReal) := by
  pointwise [k0_pay8]

/-- and the sum of those. -/
theorem pay1_apply (e : IVec S1920x1920 1) :
    k0_pay1 (F := Ideal) (k0_pay9 X r s e) (ix2 0 0) = (∑ b : Fin 2, ∑ i : Fin 1920, k0_pay8 (F := Ideal) X r s e (ix2 b i) : EReal) := by
  pointwise [k0_pay1, k0_pay9]

/-- The image gradient. -/
theorem pay11_apply (t : FVec Ideal S1x1 .f32) (e : IVec S1920x1920 1) (b : Fin 2) (i : Fin 1920) (d : Fin 1024) :
    k0_pay11 (F := Ideal) v vs t X r s e (ix3 b i d)
      = (t (ix2 0 0) * ∑ j : Fin 1920, k0_pay7 (F := Ideal) X r s e (ix3 b i j) * (v (ix3 b j d) * vs (ix2 b j)) : EReal) := by
  pointwise [k0_pay11, k0_pay10]

/-- The text gradient. -/
theorem pay12_apply (t : FVec Ideal S1x1 .f32) (e : IVec S1920x1920 1) (b : Fin 2) (j : Fin 1920) (d : Fin 1024) :
    k0_pay12 (F := Ideal) u us t X r s e (ix3 b j d)
      = (t (ix2 0 0) * ∑ i : Fin 1920, k0_pay7 (F := Ideal) X r s e (ix3 b i j) * (u (ix3 b i d) * us (ix2 b i)) : EReal) := by
  pointwise [k0_pay12, k0_pay10]

end Cert.ReferenceIdeal.Val

end
-- ==== Proof.RefEnd.lean ====
/- What the reference's result arrays hold at the end, element by element, in terms of the arguments. -/
module

public import proofs.«01_k».proof.Proof.RefRead
public import proofs.«01_k».proof.Proof.Gen.ReferenceIdeal.Value
public import Idealize.ShloMosaic.Lib.Pipeline.ValueKit

@[expose] public section

set_option maxRecDepth 16384

noncomputable section

namespace Cert.ReferenceIdeal.Val

open Idealize.ShloMosaic Idealize.ShloMosaic.TcCoe Idealize.ShloMosaic.Tactic
open Idealize.SL Idealize.SL.Sem
open Idealize.ShloMosaic.Pipeline (Dat Cfg Window)
open Cert.ReferenceIdeal Cert.ReferenceIdeal.Gen

variable (m : (ℓ : Loc nD τ sig) → Buf (Elt Ideal) ℓ) (c : Dev nD)

/-! ## The arguments, batch by batch -/

/-- The temperature. -/
def T : EReal := Ideal.exp ((m ((c : Thread nD τ).loc main_arg4) : FVec Ideal S_ .f32) ix0)
/-- The image codes, -/
def U (b : Fin 2) (a : Fin 1920) (d : Fin 1024) : EReal := (m ((c : Thread nD τ).loc main_arg0) : FVec Ideal S2x1920x1024 .fp8e4m3) (ix3 b a d)
/-- the image scales, -/
def US (b : Fin 2) (a : Fin 1920) : EReal := (m ((c : Thread nD τ).loc main_arg1) : FVec Ideal S2x1920 .f32) (ix2 b a)
/-- the text codes, -/
def W (b : Fin 2) (a : Fin 1920) (d : Fin 1024) : EReal := (m ((c : Thread nD τ).loc main_arg2) : FVec Ideal S2x1920x1024 .fp8e4m3) (ix3 b a d)
/-- and the text scales. -/
def WS (b : Fin 2) (a : Fin 1920) : EReal := (m ((c : Thread nD τ).loc main_arg3) : FVec Ideal S2x1920 .f32) (ix2 b a)

/-- The logits of batch element `b`. -/
def X (b : Fin 2) : Spec.Mat := Plain.logit (T m c) (U m c b) (W m c b) (US m c b) (WS m c b)

/-! ## What the one point reads -/

/-- The block index of window 0 at a point. -/
theorem index_0 : ∀ t, win0_0.index t = ![0, 0] := by decide +kernel
/-- The block index of window 1 at a point. -/
theorem index_1 : ∀ t, win0_1.index t = ![0, 0, 0] := by decide +kernel
/-- The block index of window 2 at a point. -/
theorem index_2 : ∀ t, win0_2.index t = ![0, 0] := by decide +kernel
/-- The block index of window 3 at a point. -/
theorem index_3 : ∀ t, win0_3.index t = ![0, 0, 0] := by decide +kernel
/-- The block index of window 4 at a point. -/
theorem index_4 : ∀ t, win0_4.index t = ![0, 0] := by decide +kernel

/-- The scale argument, as the point reads it, -/
abbrev x0 : FVec Ideal S1x1 .f32 := iblk m c 0 t0_0
/-- the image codes, -/
abbrev x1 : FVec Ideal S2x1920x1024 .fp8e4m3 := iblk m c 1 t0_0
/-- the image scales, -/
abbrev x2 : FVec Ideal S2x1920 .f32 := iblk m c 2 t0_0
/-- the text codes, -/
abbrev x3 : FVec Ideal S2x1920x1024 .fp8e4m3 := iblk m c 3 t0_0
/-- and the text scales. -/
abbrev x4 : FVec Ideal S2x1920 .f32 := iblk m c 4 t0_0

/-- The exponential of the scale argument is the temperature. -/
theorem x0_apply : Ideal.exp (x0 m c (ix2 0 0)) = T m c := by
  unfold T
  refine congrArg Ideal.exp ?_
  blk_ext! [iblk, V, index_0 t0_0]

/-- The image codes read, -/
theorem x1_apply (b : Fin 2) (a : Fin 1920) (d : Fin 1024) : x1 m c (ix3 b a d) = U m c b a d := by
  unfold U
  blk_ext [iblk, V, index_1 t0_0]

/-- the image scales read, -/
theorem x2_apply (b : Fin 2) (a : Fin 1920) : x2 m c (ix2 b a) = US m c b a := by
  unfold US
  blk_ext [iblk, V, index_2 t0_0]

/-- the text codes read, -/
theorem x3_apply (b : Fin 2) (a : Fin 1920) (d : Fin 1024) : x3 m c (ix3 b a d) = W m c b a d := by
  unfold W
  blk_ext [iblk, V, index_3 t0_0]

/-- and the text scales read are the arguments. -/
theorem x4_apply (b : Fin 2) (a : Fin 1920) : x4 m c (ix2 b a) = WS m c b a := by
  unfold WS
  blk_ext [iblk, V, index_4 t0_0]

/-! ## What it computes -/

/-- The logits, -/
def L : FVec Ideal S2x1920x1920 .f32 := k0_pay3 (x1 m c) (x2 m c) (x3 m c) (x4 m c) (x0 m c)
/-- the log-sum-exps of their rows -/
def R : FVec Ideal S2x1920 .f32 := k0_pay4 (x1 m c) (x2 m c) (x3 m c) (x4 m c) (x0 m c)
/-- and of their columns. -/
def C : FVec Ideal S2x1920 .f32 := k0_pay5 (x1 m c) (x2 m c) (x3 m c) (x4 m c) (x0 m c)

/-- The logits are the plain ones, -/
theorem L_apply (b : Fin 2) (i j : Fin 1920) : L m c (ix3 b i j) = X m c b i j := by
  unfold L X Plain.logit
  rw [pay3_apply, x0_apply]
  simp only [x1_apply, x2_apply, x3_apply, x4_apply]

/-- so are the rows' log-sum-exps, -/
theorem R_apply (b : Fin 2) (i : Fin 1920) : R m c (ix2 b i) = Plain.lse (X m c b i) := by
  unfold R
  rw [pay4_apply]
  exact congrArg Plain.lse (funext fun j => L_apply m c b i j)

/-- and the columns'. -/
theorem C_apply (b : Fin 2) (j : Fin 1920) : C m c (ix2 b j) = Plain.lse fun i => X m c b i j := by
  unfold C
  rw [pay5_apply]
  exact congrArg Plain.lse (funext fun i => L_apply m c b i j)

/-- The gradient at a logit, -/
theorem G_apply (b : Fin 2) (i j : Fin 1920) :
    k0_pay7 (F := Ideal) (L m c) (R m c) (C m c) k0_pay6 (ix3 b i j) = Plain.grad (X m c b) i j := by
  rw [pay7_apply, L_apply, R_apply, C_apply]
  rfl

/-- and its sum along a row with the logits. -/
theorem S_apply (b : Fin 2) (i : Fin 1920) :
    k0_pay8 (F := Ideal) (L m c) (R m c) (C m c) k0_pay6 (ix2 b i) = Plain.rowSum (X m c b) i := by
  rw [pay8_apply]
  exact Finset.sum_congr rfl fun j _ => by rw [G_apply, L_apply]

/-! ## The arrays at the end -/

/-- A load of a whole array of rank three is the array, -/
theorem ld3 {e : EltTy} (x : Vec Ideal S2x1920x1024 e) : View.ld (Val := Elt Ideal) x r0_0 = x := View.ld_unit_lit _ _ (by decide)
/-- and so for rank two -/
theorem ld2 {e : EltTy} (x : Vec Ideal S2x1920 e) : View.ld (Val := Elt Ideal) x r0_1 = x := View.ld_unit_lit _ _ (by decide)
/-- and for a single element. -/
theorem ld1 {e : EltTy} (x : Vec Ideal S1x1 e) : View.ld (Val := Elt Ideal) x r0_2 = x := View.ld_unit_lit _ _ (by decide)

/-- The image gradients, -/
theorem end5 (b : Fin 2) (a : Fin 1920) (d : Fin 1024) :
    ((dats m 0 c).arrAt 5 cfg0.N : FVec Ideal S2x1920x1024 .bf16) (ix3 b a d)
      = Plain.img (T m c) (U m c b) (W m c b) (US m c b) (WS m c b) a d := by
  have e := (dats m 0 c).arrAt_emb_eq_after_last 5 t0_0 (by decide +kernel) (ix3 b a d)
  refine (Eq.trans ?_ e).trans ?_
  · blk_ext []
  have e' : (dats m 0 c).after 5 t0_0 = k0_pay11 (x3 m c) (x4 m c) (k0_pay2 (x0 m c)) (L m c) (R m c) (C m c) k0_pay6 := by
    rw [after0_5]
    unfold_out out0_5
    rw [View.canon_cons_unit_lit _ _ _ (by decide)]
    simp only [ld3, ld2, ld1]
    rfl
  show (dats m 0 c).after 5 t0_0 (ix3 b a d) = _
  rw [e']
  rw [pay11_apply, pay2_apply, x0_apply]
  simp only [G_apply, x3_apply, x4_apply]
  rfl

/-- the text gradients, -/
theorem end6 (b : Fin 2) (a : Fin 1920) (d : Fin 1024) :
    ((dats m 0 c).arrAt 6 cfg0.N : FVec Ideal S2x1920x1024 .bf16) (ix3 b a d)
      = Plain.txt (T m c) (U m c b) (W m c b) (US m c b) (WS m c b) a d := by
  have e := (dats m 0 c).arrAt_emb_eq_after_last 6 t0_0 (by decide +kernel) (ix3 b a d)
  refine (Eq.trans ?_ e).trans ?_
  · blk_ext []
  have e' : (dats m 0 c).after 6 t0_0 = k0_pay12 (x1 m c) (x2 m c) (k0_pay2 (x0 m c)) (L m c) (R m c) (C m c) k0_pay6 := by
    rw [after0_6]
    unfold_out out0_6
    rw [View.canon_cons_unit_lit _ _ _ (by decide)]
    simp only [ld3, ld2, ld1]
    rfl
  show (dats m 0 c).after 6 t0_0 (ix3 b a d) = _
  rw [e']
  rw [pay12_apply, pay2_apply, x0_apply]
  simp only [G_apply, x1_apply, x2_apply]
  rfl

/-- the gradient of the temperature's logarithm, -/
theorem end7 :
    ((dats m 0 c).arrAt 7 cfg0.N : FVec Ideal S1x1 .f32) (ix2 0 0)
      = ∑ b : Fin 2, ∑ a, Plain.rowSum (X m c b) a := by
  have e := (dats m 0 c).arrAt_emb_eq_after_last 7 t0_0 (by decide +kernel) (ix2 0 0)
  refine (Eq.trans ?_ e).trans ?_
  · blk_ext []
  have e' : (dats m 0 c).after 7 t0_0 = k0_pay1 (k0_pay9 (L m c) (R m c) (C m c) k0_pay6) := by
    rw [after0_7]
    unfold_out out0_7
    rw [View.canon_cons_unit_lit _ _ _ (by decide)]
    simp only [ld3, ld2, ld1]
    rfl
  show (dats m 0 c).after 7 t0_0 (ix2 0 0) = _
  rw [e']
  rw [pay1_apply]
  simp only [S_apply]

/-- the row sums of the gradient times the logit, -/
theorem end8 (b : Fin 2) (a : Fin 1920) :
    ((dats m 0 c).arrAt 8 cfg0.N : FVec Ideal S2x1920 .f32) (ix2 b a)
      = Plain.rowSum (X m c b) a := by
  have e := (dats m 0 c).arrAt_emb_eq_after_last 8 t0_0 (by decide +kernel) (ix2 b a)
  refine (Eq.trans ?_ e).trans ?_
  · blk_ext []
  have e' : (dats m 0 c).after 8 t0_0 = k0_pay8 (L m c) (R m c) (C m c) k0_pay6 := by
    rw [after0_8]
    unfold_out out0_8
    rw [View.canon_cons_unit_lit _ _ _ (by decide)]
    simp only [ld3, ld2, ld1]
    rfl
  show (dats m 0 c).after 8 t0_0 (ix2 b a) = _
  rw [e']
  exact S_apply m c b a

/-- the log-sum-exps of the rows, -/
theorem end9 (b : Fin 2) (a : Fin 1920) :
    ((dats m 0 c).arrAt 9 cfg0.N : FVec Ideal S2x1920 .f32) (ix2 b a)
      = Plain.lse (X m c b a) := by
  have e := (dats m 0 c).arrAt_emb_eq_after_last 9 t0_0 (by decide +kernel) (ix2 b a)
  refine (Eq.trans ?_ e).trans ?_
  · blk_ext []
  have e' : (dats m 0 c).after 9 t0_0 = R m c := by
    rw [after0_9]
    unfold_out out0_9
    rw [View.canon_cons_unit_lit _ _ _ (by decide)]
    simp only [ld3, ld2, ld1]
    rfl
  show (dats m 0 c).after 9 t0_0 (ix2 b a) = _
  rw [e']
  exact R_apply m c b a

/-- and of the columns. -/
theorem end10 (b : Fin 2) (a : Fin 1920) :
    ((dats m 0 c).arrAt 10 cfg0.N : FVec Ideal S2x1920 .f32) (ix2 b a)
      = Plain.lse fun i => X m c b i a := by
  have e := (dats m 0 c).arrAt_emb_eq_after_last 10 t0_0 (by decide +kernel) (ix2 b a)
  refine (Eq.trans ?_ e).trans ?_
  · blk_ext []
  have e' : (dats m 0 c).after 10 t0_0 = C m c := by
    rw [after0_10]
    unfold_out out0_10
    rw [View.canon_cons_unit_lit _ _ _ (by decide)]
    simp only [ld3, ld2, ld1]
    rfl
  show (dats m 0 c).after 10 t0_0 (ix2 b a) = _
  rw [e']
  exact C_apply m c b a

end Cert.ReferenceIdeal.Val

end
-- ==== Proof.Same.lean ====
/- The two programs' final arrays are the same. -/
module

public import proofs.«01_k».proof.Defs
public import proofs.«01_k».proof.Proof.KernelEnd
public import proofs.«01_k».proof.Proof.RefEnd

@[expose] public section

set_option maxRecDepth 16384

noncomputable section

namespace Cert.Same

open Idealize.ShloMosaic Idealize.ShloMosaic.TcCoe Idealize.SL.Sem

/-- Two arrays of rank three equal at every coordinate are equal, -/
theorem ext3 {n₀ n₁ n₂ : ℕ} {α : Type} {f g : (⟨3, ![n₀, n₁, n₂]⟩ : Shape).Idx → α}
    (h : ∀ (b : Fin n₀) (a : Fin n₁) (d : Fin n₂), f (ix3 b a d) = g (ix3 b a d)) : f = g :=
  funext fun i => by
    have e : i = ix3 (i 0) (i 1) (i 2) := funext fun a => by fin_cases a <;> rfl
    rw [e]
    exact h _ _ _

/-- and so are two of rank two. -/
theorem ext2 {n₀ n₁ : ℕ} {α : Type} {f g : (⟨2, ![n₀, n₁]⟩ : Shape).Idx → α}
    (h : ∀ (b : Fin n₀) (a : Fin n₁), f (ix2 b a) = g (ix2 b a)) : f = g :=
  funext fun i => by
    have e : i = ix2 (i 0) (i 1) := funext fun a => by fin_cases a <;> rfl
    rw [e]
    exact h _ _

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  (c : Dev Cert.KernelIdeal.nD)

/-- The two memories hold the same arguments. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable (hc : Agree m m' c)
include hc

/-- The two programs have the same temperature, -/
theorem T_eq : ReferenceIdeal.Val.T m' c = KernelIdeal.Val.T m c :=
  congrArg (fun f : FVec Ideal Cert.KernelIdeal.S_ .f32 => Ideal.exp (f ix0)) hc.2.2.2.2
/-- the same image codes, -/
theorem U_eq : ReferenceIdeal.Val.U m' c = KernelIdeal.Val.U m c :=
  congrArg (fun (f : FVec Ideal Cert.KernelIdeal.S2x1920x1024 .fp8e4m3) (b : Fin 2) (a : Fin 1920) (d : Fin 1024) => (f (ix3 b a d) : EReal)) hc.1
/-- the same image scales, -/
theorem US_eq : ReferenceIdeal.Val.US m' c = KernelIdeal.Val.US m c :=
  congrArg (fun (f : FVec Ideal Cert.KernelIdeal.S2x1920 .f32) (b : Fin 2) (a : Fin 1920) => (f (ix2 b a) : EReal)) hc.2.1
/-- the same text codes, -/
theorem W_eq : ReferenceIdeal.Val.W m' c = KernelIdeal.Val.W m c :=
  congrArg (fun (f : FVec Ideal Cert.KernelIdeal.S2x1920x1024 .fp8e4m3) (b : Fin 2) (a : Fin 1920) (d : Fin 1024) => (f (ix3 b a d) : EReal)) hc.2.2.1
/-- the same text scales, -/
theorem WS_eq : ReferenceIdeal.Val.WS m' c = KernelIdeal.Val.WS m c :=
  congrArg (fun (f : FVec Ideal Cert.KernelIdeal.S2x1920 .f32) (b : Fin 2) (a : Fin 1920) => (f (ix2 b a) : EReal)) hc.2.2.2.1
/-- and so the same logits. -/
theorem X_eq : ReferenceIdeal.Val.X m' c = KernelIdeal.Val.X m c := by
  unfold ReferenceIdeal.Val.X KernelIdeal.Val.X
  rw [T_eq c hc, U_eq c hc, US_eq c hc, W_eq c hc, WS_eq c hc]

variable {r : PUnit × MemSt Cert.KernelIdeal.nD Cert.KernelIdeal.τ Cert.KernelIdeal.sig (Elt Ideal)}
  (h : Pipeline.RDat.FramePost (Cert.KernelIdeal.cfgs 0) (KernelIdeal.Val.rdat m) (KernelIdeal.Gen.V m) r)
include h

/-- The image gradients are the reference's, -/
theorem same5 : (r.2.mem ((c.tc : Thread Cert.KernelIdeal.nD Cert.KernelIdeal.τ).loc Cert.KernelIdeal.main_v1_0) : FVec Ideal Cert.KernelIdeal.S2x1920x1024 .bf16)
    = (ReferenceIdeal.Gen.dats m' 0 c).arrAt 5 ReferenceIdeal.cfg0.N :=
  ext3 fun b a d => by
    refine (KernelIdeal.Val.end5 c h b a d).trans (Eq.trans ?_ (ReferenceIdeal.Val.end5 m' c b a d).symm)
    rw [T_eq c hc, U_eq c hc, US_eq c hc, W_eq c hc, WS_eq c hc]

/-- the text gradients, -/
theorem same6 : (r.2.mem ((c.tc : Thread Cert.KernelIdeal.nD Cert.KernelIdeal.τ).loc Cert.KernelIdeal.main_v1_1) : FVec Ideal Cert.KernelIdeal.S2x1920x1024 .bf16)
    = (ReferenceIdeal.Gen.dats m' 0 c).arrAt 6 ReferenceIdeal.cfg0.N :=
  ext3 fun b a d => by
    refine (KernelIdeal.Val.end6 c h b a d).trans (Eq.trans ?_ (ReferenceIdeal.Val.end6 m' c b a d).symm)
    rw [T_eq c hc, U_eq c hc, US_eq c hc, W_eq c hc, WS_eq c hc]

/-- the gradient of the temperature's logarithm, -/
theorem same7 : (r.2.mem ((c.tc : Thread Cert.KernelIdeal.nD Cert.KernelIdeal.τ).loc Cert.KernelIdeal.main_v1_2) : FVec Ideal Cert.KernelIdeal.S1x1 .f32)
    = (ReferenceIdeal.Gen.dats m' 0 c).arrAt 7 ReferenceIdeal.cfg0.N :=
  ext2 fun b a => by
    obtain rfl : b = 0 := Subsingleton.elim _ _
    obtain rfl : a = 0 := Subsingleton.elim _ _
    refine (KernelIdeal.Val.end7 c h).trans (Eq.trans ?_ (ReferenceIdeal.Val.end7 m' c).symm)
    rw [X_eq c hc]

/-- the row sums, -/
theorem same8 : (r.2.mem ((c.tc : Thread Cert.KernelIdeal.nD Cert.KernelIdeal.τ).loc Cert.KernelIdeal.main_v1_3) : FVec Ideal Cert.KernelIdeal.S2x1920 .f32)
    = (ReferenceIdeal.Gen.dats m' 0 c).arrAt 8 ReferenceIdeal.cfg0.N :=
  ext2 fun b a => by
    refine (KernelIdeal.Val.end8 c h b a).trans (Eq.trans ?_ (ReferenceIdeal.Val.end8 m' c b a).symm)
    rw [X_eq c hc]

/-- the log-sum-exps of the rows -/
theorem same9 : (r.2.mem ((c.tc : Thread Cert.KernelIdeal.nD Cert.KernelIdeal.τ).loc Cert.KernelIdeal.main_v1_4) : FVec Ideal Cert.KernelIdeal.S2x1920 .f32)
    = (ReferenceIdeal.Gen.dats m' 0 c).arrAt 9 ReferenceIdeal.cfg0.N :=
  ext2 fun b a => by
    refine (KernelIdeal.Val.end9 c h b a).trans (Eq.trans ?_ (ReferenceIdeal.Val.end9 m' c b a).symm)
    rw [X_eq c hc]

/-- and those of the columns. -/
theorem same10 : (r.2.mem ((c.tc : Thread Cert.KernelIdeal.nD Cert.KernelIdeal.τ).loc Cert.KernelIdeal.main_v1_5) : FVec Ideal Cert.KernelIdeal.S2x1920 .f32)
    = (ReferenceIdeal.Gen.dats m' 0 c).arrAt 10 ReferenceIdeal.cfg0.N :=
  ext2 fun b a => by
    refine (KernelIdeal.Val.end10 c h b a).trans (Eq.trans ?_ (ReferenceIdeal.Val.end10 m' c b a).symm)
    rw [X_eq c hc]

end Cert.Same

end
-- ==== Proof.WordFrame.lean ====
/- The kernel's frame on any floats: it terminates with its arguments unchanged and every semaphore counter at zero.
   Nothing is said of what its outputs hold. The text follows the one generated for a certificate that claims frames only. -/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

-- membership in a rectangle of production extents (`View.cover_of_tiled`): the elaborator's structural look
-- recurses once per coordinate of the long axes
set_option maxRecDepth 16384

noncomputable section

namespace Cert.Kernel.Words

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The kernel body on any staging memrefs: a subtype the run finds -/

/-- Each window's current staging memref at point `t`, spelled as the pipeline passes it (`bodyAt0`), and its wholeness. -/
abbrev ms0_0 (t : Fin cfg0.N) : Memref sig .tc .smem S1x1 .f32 := win0_0.stage (cfg0.slots t 0)
/-- It is a whole buffer. -/
abbrev hs0_0 (t : Fin cfg0.N) : (ms0_0 t).IsWhole := hstage0_0 ((cfg0.slots t 0).cast nbuf0_0)
/-- The staging buffer of window 1 at a point. -/
abbrev ms0_1 (t : Fin cfg0.N) : Memref sig .tc .vmem S1x1920x1024 .fp8e4m3 := win0_1.stage (cfg0.slots t 1)
/-- It is a whole buffer. -/
abbrev hs0_1 (t : Fin cfg0.N) : (ms0_1 t).IsWhole := hstage0_1 ((cfg0.slots t 1).cast nbuf0_1)
/-- The staging buffer of window 2 at a point. -/
abbrev ms0_2 (t : Fin cfg0.N) : Memref sig .tc .vmem S1x1920x1024 .fp8e4m3 := win0_2.stage (cfg0.slots t 2)
/-- It is a whole buffer. -/
abbrev hs0_2 (t : Fin cfg0.N) : (ms0_2 t).IsWhole := hstage0_2 ((cfg0.slots t 2).cast nbuf0_2)
/-- The staging buffer of window 3 at a point. -/
abbrev ms0_3 (t : Fin cfg0.N) : Memref sig .tc .vmem S2x1920 .f32 := win0_3.stage (cfg0.slots t 3)
/-- It is a whole buffer. -/
abbrev hs0_3 (t : Fin cfg0.N) : (ms0_3 t).IsWhole := hstage0_3 ((cfg0.slots t 3).cast nbuf0_3)
/-- The staging buffer of window 4 at a point. -/
abbrev ms0_4 (t : Fin cfg0.N) : Memref sig .tc .vmem S2x1920 .f32 := win0_4.stage (cfg0.slots t 4)
/-- It is a whole buffer. -/
abbrev hs0_4 (t : Fin cfg0.N) : (ms0_4 t).IsWhole := hstage0_4 ((cfg0.slots t 4).cast nbuf0_4)
/-- The staging buffer of window 5 at a point. -/
abbrev ms0_5 (t : Fin cfg0.N) : Memref sig .tc .vmem S1x1920x1024 .bf16 := win0_5.stage (cfg0.slots t 5)
/-- It is a whole buffer. -/
abbrev hs0_5 (t : Fin cfg0.N) : (ms0_5 t).IsWhole := hstage0_5 ((cfg0.slots t 5).cast nbuf0_5)
/-- The staging buffer of window 6 at a point. -/
abbrev ms0_6 (t : Fin cfg0.N) : Memref sig .tc .vmem S1x1920x1024 .bf16 := win0_6.stage (cfg0.slots t 6)
/-- It is a whole buffer. -/
abbrev hs0_6 (t : Fin cfg0.N) : (ms0_6 t).IsWhole := hstage0_6 ((cfg0.slots t 6).cast nbuf0_6)
/-- The staging buffer of window 7 at a point. -/
abbrev ms0_7 (t : Fin cfg0.N) : Memref sig .tc .vmem S1x1 .f32 := win0_7.stage (cfg0.slots t 7)
/-- It is a whole buffer. -/
abbrev hs0_7 (t : Fin cfg0.N) : (ms0_7 t).IsWhole := hstage0_7 ((cfg0.slots t 7).cast nbuf0_7)
/-- The staging buffer of window 8 at a point. -/
abbrev ms0_8 (t : Fin cfg0.N) : Memref sig .tc .vmem S2x1920 .f32 := win0_8.stage (cfg0.slots t 8)
/-- It is a whole buffer. -/
abbrev hs0_8 (t : Fin cfg0.N) : (ms0_8 t).IsWhole := hstage0_8 ((cfg0.slots t 8).cast nbuf0_8)
/-- The staging buffer of window 9 at a point. -/
abbrev ms0_9 (t : Fin cfg0.N) : Memref sig .tc .vmem S2x1920 .f32 := win0_9.stage (cfg0.slots t 9)
/-- It is a whole buffer. -/
abbrev hs0_9 (t : Fin cfg0.N) : (ms0_9 t).IsWhole := hstage0_9 ((cfg0.slots t 9).cast nbuf0_9)
/-- The staging buffer of window 10 at a point. -/
abbrev ms0_10 (t : Fin cfg0.N) : Memref sig .tc .vmem S2x1920 .f32 := win0_10.stage (cfg0.slots t 10)
/-- It is a whole buffer. -/
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1920x1920 .f32 := Memref.whole cc0_scratch0
/-- Scratch buffer 1. -/
abbrev scM0_1 : Memref sig .tc .vmem S1920x1920 .bf16 := Memref.whole cc0_scratch1
/-- Scratch buffer 2. -/
abbrev scM0_2 : Memref sig .tc .vmem S1920x1024 .bf16 := Memref.whole cc0_scratch2
/-- Scratch buffer 3. -/
abbrev scM0_3 : Memref sig .tc .vmem S1920x1024 .bf16 := Memref.whole cc0_scratch3
/-- Scratch buffer 4. -/
abbrev scM0_4 : Memref sig .tc .vmem S1920x128 .f32 := Memref.whole cc0_scratch4
/-- Scratch buffer 5. -/
abbrev scM0_5 : Memref sig .tc .vmem S1920x128 .f32 := Memref.whole cc0_scratch5
/-- Scratch buffer 6. -/
abbrev scM0_6 : Memref sig .tc .vmem S1920x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (5, 6, 7, 8, 9, 10) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .smem S1x1 .f32) (harg1 : arg1.IsWhole) (arg2 : Memref sig .tc .vmem S1x1920x1024 .fp8e4m3) (harg2 : arg2.IsWhole) (arg3 : Memref sig .tc .vmem S1x1920x1024 .fp8e4m3) (harg3 : arg3.IsWhole) (arg4 : Memref sig .tc .vmem S2x1920 .f32) (harg4 : arg4.IsWhole) (arg5 : Memref sig .tc .vmem S2x1920 .f32) (harg5 : arg5.IsWhole) (arg6 : Memref sig .tc .vmem S1x1920x1024 .bf16) (harg6 : arg6.IsWhole) (arg7 : Memref sig .tc .vmem S1x1920x1024 .bf16) (harg7 : arg7.IsWhole) (arg8 : Memref sig .tc .vmem S1x1 .f32) (harg8 : arg8.IsWhole) (arg9 : Memref sig .tc .vmem S2x1920 .f32) (harg9 : arg9.IsWhole) (arg10 : Memref sig .tc .vmem S2x1920 .f32) (harg10 : arg10.IsWhole) (arg11 : Memref sig .tc .vmem S2x1920 .f32) (harg11 : arg11.IsWhole) (arg12 : Memref sig .tc .vmem S1920x1920 .f32) (harg12 : arg12.IsWhole) (arg13 : Memref sig .tc .vmem S1920x1920 .bf16) (harg13 : arg13.IsWhole) (arg14 : Memref sig .tc .vmem S1920x1024 .bf16) (harg14 : arg14.IsWhole) (arg15 : Memref sig .tc .vmem S1920x1024 .bf16) (harg15 : arg15.IsWhole) (arg16 : Memref sig .tc .vmem S1920x128 .f32) (harg16 : arg16.IsWhole) (arg17 : Memref sig .tc .vmem S1920x128 .f32) (harg17 : arg17.IsWhole) (arg18 : Memref sig .tc .vmem S1920x128 .f32) (harg18 : arg18.IsWhole)
    (x0 : Vec F S1x1 .f32) (x1 : Vec F S1x1920x1024 .fp8e4m3) (x2 : Vec F S1x1920x1024 .fp8e4m3) (x3 : Vec F S2x1920 .f32) (x4 : Vec F S2x1920 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0__clip_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__clip_backward_eq_skeleton]; unfold cc0__clip_backward_skel
    simp only [k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem kept_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 1 rfl).trans ((hA c 1).trans (V_main_arg0 m c)),
      (Pipeline.RDat.FramePost.arr_in h c 3 rfl).trans ((hA c 3).trans (V_main_arg1 m c)),
      (Pipeline.RDat.FramePost.arr_in h c 2 rfl).trans ((hA c 2).trans (V_main_arg2 m c)),
      (Pipeline.RDat.FramePost.arr_in h c 4 rfl).trans ((hA c 4).trans (V_main_arg3 m c)),
      ((h c).2 main_arg4 (Pipeline.mem_restRefs_of main_arg4 (by decide) (by decide))).trans (V_main_arg4 m c)⟩) h

/-! ## The pipeline's proof data -/

/-- The output windows this certificate FORGETS (5, 6, 7, 8, 9, 10): nothing reads what the kernel leaves in them, so nothing
    of it is named (Lib/Pipeline/Dat.lean `Dat.toRForget`). -/
def forgets0 : Fin 11 → Bool := fun w => w.val == 5 || w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- After the body input 1 holds its block still. -/
theorem after0_1 (c : Dev nD) (t : Fin cfg0.N) : (dats m 0 c).after 1 t = iblk m c 1 t := by dsimp only [dats]
/-- After the body input 2 holds its block still. -/
theorem after0_2 (c : Dev nD) (t : Fin cfg0.N) : (dats m 0 c).after 2 t = iblk m c 2 t := by dsimp only [dats]
/-- After the body input 3 holds its block still. -/
theorem after0_3 (c : Dev nD) (t : Fin cfg0.N) : (dats m 0 c).after 3 t = iblk m c 3 t := by dsimp only [dats]
/-- After the body input 4 holds its block still. -/
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Before the body input 1 holds its block. -/
theorem before0_1 (c : Dev nD) (t : Fin cfg0.N) (d) : (dats m 0 c).before 1 t d = iblk m c 1 t :=
  before0_1_of m (dats m 0 c) (A_eq m c 1) (after0_1 m c) t d
/-- Before the body input 2 holds its block. -/
theorem before0_2 (c : Dev nD) (t : Fin cfg0.N) (d) : (dats m 0 c).before 2 t d = iblk m c 2 t :=
  before0_2_of m (dats m 0 c) (A_eq m c 2) (after0_2 m c) t d
/-- Before the body input 3 holds its block. -/
theorem before0_3 (c : Dev nD) (t : Fin cfg0.N) (d) : (dats m 0 c).before 3 t d = iblk m c 3 t :=
  before0_3_of m (dats m 0 c) (A_eq m c 3) (after0_3 m c) t d
/-- Before the body input 4 holds its block. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  kept_of m ρ (fun c => (dats m 0 c).toRForget forgets0) (A_eq m) (run_main m ρ)

/-- The frame: from zero counters the kernel ends with its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Words

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Same
public import proofs.«01_k».proof.Proof.WordFrame
public import Idealize.ShloMosaic.Adequacy
public import Idealize.ShloMosaic.Init

@[expose] public section

noncomputable section

namespace Cert.Proof

open Idealize.ShloMosaic Idealize.SL.Sem Cert.Kernel

/-- The four numbers the kernel spells as f32 constants are the ones its idealization names. -/
theorem preserves : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "ln_2" .f32 0x3F317218#32 ((Real.log 2 : ℝ) : EReal) rfl,
    IdealRules.named_const.statement Cert.KernelIdeal.κ "log2_two_n" .f32 0x413E82A0#32 (((Real.log 3840) * (Real.log 2)⁻¹ : ℝ) : EReal) rfl,
    IdealRules.named_const.statement Cert.KernelIdeal.κ "inv_n" .f32 0x3A088889#32 ((1 / 1920 : ℝ) : EReal) rfl⟩

/-- From the same arguments the kernel's idealization and the reference end with the same six arrays: the reference's
    own, which `Cert.Same` shows the kernel's to be. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => (ReferenceIdeal.Gen.dats m' 0 c).arrAt 5 ReferenceIdeal.cfg0.N,
    fun c => (ReferenceIdeal.Gen.dats m' 0 c).arrAt 6 ReferenceIdeal.cfg0.N,
    fun c => (ReferenceIdeal.Gen.dats m' 0 c).arrAt 7 ReferenceIdeal.cfg0.N,
    fun c => (ReferenceIdeal.Gen.dats m' 0 c).arrAt 8 ReferenceIdeal.cfg0.N,
    fun c => (ReferenceIdeal.Gen.dats m' 0 c).arrAt 9 ReferenceIdeal.cfg0.N,
    fun c => (ReferenceIdeal.Gen.dats m' 0 c).arrAt 10 ReferenceIdeal.cfg0.N,
    (θ_run _ _ _).mono (fun r h c => ?_) (KernelIdeal.Val.run_main m ρ), ReferenceIdeal.Value.run_blocks m' ρ'⟩
  have hc : Cert.Same.Agree m m' c := hagree c
  exact ⟨Cert.Same.same5 c hc h.1, Cert.Same.same6 c hc h.1, Cert.Same.same7 c hc h.1, Cert.Same.same8 c hc h.1,
    Cert.Same.same9 c hc h.1, Cert.Same.same10 c hc h.1, KernelIdeal.Val.kept m h.1 c⟩

/-- All five claims. -/
theorem claim : Cert.Claim :=
  ⟨Cert.Kernel.Gen.facts, Cert.KernelIdeal.Gen.facts, Cert.ReferenceIdeal.Gen.facts,
    fun m ρ _ => Cert.Kernel.Words.frame m ρ, fun m ρ _ => Cert.KernelIdeal.Val.frame m ρ,
    fun m ρ _ => Cert.ReferenceIdeal.Gen.frame m ρ, preserves, algebraic⟩

end Cert.Proof

end
